-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ preserves_Kernel_KernelIdeal
    ∧ algebraic_KernelIdeal_ReferenceIdeal (hKernelIdeal := hKernelIdeal) (hReferenceIdeal := hReferenceIdeal) (hPre_idx_in_rows := hPre_idx_in_rows)
-- ==== Pre_idx_in_rows.lean ====
abbrev S10000x128 : Shape := ⟨2, ![10000, 128]⟩
abbrev S320000x128 : Shape := ⟨2, ![320000, 128]⟩
abbrev S_ : Shape := ⟨0, ![]⟩

class Facts : Prop where
  bcast_S_S320000x128 : S_.BroadcastsInDim S320000x128 (![] : Fin 0 → Fin S320000x128.rank)

variable [Facts]

def fn {F : FTy → Type} [FloatOps F] (main_arg0 : FVec F S10000x128 .f32) (main_arg1 : IVec S320000x128 32) (main_arg2 : FVec F S320000x128 .f32) : IVec S320000x128 1 :=
  let main_c : IVec S_ 32 := constantI S_ 32 0#32
  let main_v0 : IVec S320000x128 32 := broadcastInDim S320000x128 ![] bcast_S_S320000x128 main_c
  let main_v1 : IVec S320000x128 1 := cmpi .sge main_arg1 main_v0
  let main_c_0 : IVec S_ 32 := constantI S_ 32 10000#32
  let main_v2 : IVec S320000x128 32 := broadcastInDim S320000x128 ![] bcast_S_S320000x128 main_c_0
  let main_v3 : IVec S320000x128 1 := cmpi .slt main_arg1 main_v2
  let main_v4 : IVec S320000x128 1 := andi main_v1 main_v3
  main_v4
-- ==== Kernel.lean ====
abbrev S10000x128 : Shape := ⟨2, ![10000, 128]⟩
abbrev S320000x128 : Shape := ⟨2, ![320000, 128]⟩
abbrev S2x10000x128 : Shape := ⟨3, ![2, 10000, 128]⟩
abbrev S10000x8 : Shape := ⟨2, ![10000, 8]⟩
abbrev S1000x8 : Shape := ⟨2, ![1000, 8]⟩
abbrev S16 : Shape := ⟨1, ![16]⟩
abbrev S_ : Shape := ⟨0, ![]⟩
abbrev S1x10000x8 : Shape := ⟨3, ![1, 10000, 8]⟩
abbrev S2x1000x128 : Shape := ⟨3, ![2, 1000, 128]⟩
abbrev S1000x128 : Shape := ⟨2, ![1000, 128]⟩
abbrev S1x1000x128 : Shape := ⟨3, ![1, 1000, 128]⟩

abbrev nBuf : Table → Nat
  | .hbm => 5
  | .local .tc .vmem => 4
  | .local .scVector .vmem => 3
  | _ => 0

abbrev bufTy : (tb : Table) → Fin (nBuf tb) → BufTy
  | .hbm, ⟨0, _⟩ => ⟨S10000x128, .f32⟩
  | .hbm, ⟨1, _⟩ => ⟨S320000x128, .i32⟩
  | .hbm, ⟨2, _⟩ => ⟨S320000x128, .f32⟩
  | .hbm, ⟨3, _⟩ => ⟨S2x10000x128, .f32⟩
  | .hbm, ⟨4, _⟩ => ⟨S10000x128, .f32⟩
  | .local .tc .vmem, ⟨0, _⟩ => ⟨S2x1000x128, .f32⟩
  | .local .tc .vmem, ⟨1, _⟩ => ⟨S2x1000x128, .f32⟩
  | .local .tc .vmem, ⟨2, _⟩ => ⟨S1000x128, .f32⟩
  | .local .tc .vmem, ⟨3, _⟩ => ⟨S1000x128, .f32⟩
  | .local .scVector .vmem, ⟨0, _⟩ => ⟨S10000x8, .f32⟩
  | .local .scVector .vmem, ⟨1, _⟩ => ⟨S1000x8, .i32⟩
  | .local .scVector .vmem, ⟨2, _⟩ => ⟨S1000x8, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg1_scv : Ref sig .scVector := ⟨.hbm, 1, rfl⟩
abbrev main_arg2_scv : Ref sig .scVector := ⟨.hbm, 2, rfl⟩
abbrev main_arg0_scv : Ref sig .scVector := ⟨.hbm, 0, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem1_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_0 : BitVec 32 := 0#32
  let v9 : BitVec 1 := Scalar.cmpi .ne v8 c0_i32_0
  v9

def k0_off1 (i : grid0.Coords) : Fin 2 → Nat :=
  let c0_i32_6_r0 : BitVec 32 := 0#32
  let arg1 : BitVec 32 := BitVec.ofNat 32 (i 1).val
  let c8_i32 : BitVec 32 := 8#32
  let v0 : BitVec 32 := Scalar.muli arg1 c8_i32
  ![0, v0.toNat]
def k0_cond2 (i : grid0.Coords) : BitVec 1 :=
  let arg0 : BitVec 32 := BitVec.ofNat 32 (i 0).val
  let c0_i32_1 : BitVec 32 := 0#32
  let v10 : BitVec 1 := Scalar.cmpi .ne arg0 c0_i32_1
  let v11 : BitVec 32 := Scalar.extui v10
  let c0_i32_2 : BitVec 32 := 0#32
  let v12 : BitVec 1 := Scalar.cmpi .ne v11 c0_i32_2
  v12

@[reducible] def k0_t1_loop : Scf.Loop 32 :=
  let c0_i32_7 : BitVec 32 := 0#32
  let c5000_i32 : BitVec 32 := 5000#32
  let v15 : BitVec 32 := Scalar.addi c0_i32_7 c5000_i32
  let c1_i32_8 : BitVec 32 := 1#32
  ⟨c0_i32_7, v15, c1_i32_8⟩

def k0_chk1 (i : grid0.Coords) (v3 : IVec S16 32) (v19 : IVec S16 32) : Prop :=
  (∀ (k0_h2 : k0_cond2 i = 1#1), ∀ a x, ((![v19, v3] : Fin 2 → IVec S16 32) a x).toNat < S10000x8.size a)
theorem k0_idx1_inb : ∀ (i : grid0.Coords) (v3 : IVec S16 32) (v19 : IVec S16 32) (k0_hw1 : k0_chk1 i v3 v19), ∀ (k0_h2 : k0_cond2 i = 1#1), ∀ a x, ((![v19, v3] : Fin 2 → IVec S16 32) a x).toNat < S10000x8.size a := fun i v3 v19 k0_hw1 k0_h2 => k0_hw1 k0_h2
@[reducible] def k0_t2_loop : Scf.Loop 32 :=
  let c0_i32_4 : BitVec 32 := 0#32
  let c160_i32 : BitVec 32 := 160#32
  let v13 : BitVec 32 := Scalar.addi c0_i32_4 c160_i32
  let c1_i32 : BitVec 32 := 1#32
  ⟨c0_i32_4, v13, c1_i32⟩
def k0_off2 (i : grid0.Coords) (k0_t2 : Fin k0_t2_loop.trips) : Fin 2 → Nat :=
  let arg0 : BitVec 32 := BitVec.ofNat 32 (i 0).val
  let c160000_i32 : BitVec 32 := 160000#32
  let v15 : BitVec 32 := Scalar.muli arg0 c160000_i32
  let c0_i32_4 : BitVec 32 := 0#32
  let c1_i32 : BitVec 32 := 1#32
  let arg9 : BitVec 32 := Scf.iv c0_i32_4 c1_i32 k0_t2
  let c1000_i32 : BitVec 32 := 1000#32
  let v16 : BitVec 32 := Scalar.muli arg9 c1000_i32
  let v17 : BitVec 32 := Scalar.addi v15 v16
  let arg1 : BitVec 32 := BitVec.ofNat 32 (i 1).val
  let c8_i32 : BitVec 32 := 8#32
  let v0 : BitVec 32 := Scalar.muli arg1 c8_i32
  ![v17.toNat, v0.toNat]
@[reducible] def k0_t3_loop : Scf.Loop 32 :=
  let c0_i32_7 : BitVec 32 := 0#32
  let c500_i32 : BitVec 32 := 500#32
  let v18 : BitVec 32 := Scalar.addi c0_i32_7 c500_i32
  let c1_i32_8 : BitVec 32 := 1#32
  ⟨c0_i32_7, v18, c1_i32_8⟩

def k0_chk2 (v3 : IVec S16 32) (v22 : IVec S16 32) : Prop :=
  (∀ a x, ((![v22, v3] : Fin 2 → IVec S16 32) a x).toNat < S1000x8.size a) ∧
  (∀ a x, ((![v22, v3] : Fin 2 → IVec S16 32) a x).toNat < S1000x8.size a)
theorem k0_idx2_inb : ∀ (v3 : IVec S16 32) (v22 : IVec S16 32) (k0_hw2 : k0_chk2 v3 v22), ∀ a x, ((![v22, v3] : Fin 2 → IVec S16 32) a x).toNat < S1000x8.size a := fun v3 v22 k0_hw2 => k0_hw2.1
theorem k0_idx3_inb : ∀ (v3 : IVec S16 32) (v22 : IVec S16 32) (k0_hw2 : k0_chk2 v3 v22), ∀ a x, ((![v22, v3] : Fin 2 → IVec S16 32) a x).toNat < S1000x8.size a := fun v3 v22 k0_hw2 => k0_hw2.2

def k0_chk3 (v3 : IVec S16 32) (v23 : IVec S16 32) : Prop :=
  (∀ a x, ((![v23, v3] : Fin 2 → IVec S16 32) a x).toNat < S10000x8.size a)
theorem k0_idx4_inb : ∀ (v3 : IVec S16 32) (v23 : IVec S16 32) (k0_hw3 : k0_chk3 v3 v23), ∀ a x, ((![v23, v3] : Fin 2 → IVec S16 32) a x).toNat < S10000x8.size a := fun v3 v23 k0_hw3 => k0_hw3
def k0_off3 (i : grid0.Coords) : Fin 3 → Nat :=
  let arg0 : BitVec 32 := BitVec.ofNat 32 (i 0).val
  let c0_i32_6_r3 : BitVec 32 := 0#32
  let arg1 : BitVec 32 := BitVec.ofNat 32 (i 1).val
  let c8_i32 : BitVec 32 := 8#32
  let v0 : BitVec 32 := Scalar.muli arg1 c8_i32
  ![arg0.toNat, 0, v0.toNat]
abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S320000x128 : Shape := ⟨2, ![320000, 128]⟩
abbrev S128 : Shape := ⟨1, ![128]⟩
abbrev S_ : Shape := ⟨0, ![]⟩
abbrev S320000x128x1 : Shape := ⟨3, ![320000, 128, 1]⟩
abbrev S320000x128x2 : Shape := ⟨3, ![320000, 128, 2]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x128, .i32⟩
  | .hbm, ⟨2, _⟩ => ⟨S320000x128, .f32⟩
  | .hbm, ⟨3, _⟩ => ⟨S128, .i32⟩
  | .hbm, ⟨4, _⟩ => ⟨S320000x128, .i32⟩
  | .hbm, ⟨5, _⟩ => ⟨S_, .i32⟩
  | .hbm, ⟨6, _⟩ => ⟨S320000x128, .i32⟩
  | .hbm, ⟨7, _⟩ => ⟨S320000x128, .i1⟩
  | .hbm, ⟨8, _⟩ => ⟨S_, .i32⟩
  | .hbm, ⟨9, _⟩ => ⟨S320000x128, .i32⟩
  | .hbm, ⟨10, _⟩ => ⟨S320000x128, .i32⟩
  | .hbm, ⟨11, _⟩ => ⟨S320000x128, .i32⟩
  | .hbm, ⟨12, _⟩ => ⟨S_, .i32⟩
  | .hbm, ⟨13, _⟩ => ⟨S320000x128, .i32⟩
  | .hbm, ⟨14, _⟩ => ⟨S320000x128, .i1⟩
  | .hbm, ⟨15, _⟩ => ⟨S_, .i32⟩
  | .hbm, ⟨16, _⟩ => ⟨S320000x128, .i32⟩
  | .hbm, ⟨17, _⟩ => ⟨S320000x128, .i32⟩
  | .hbm, ⟨18, _⟩ => ⟨S320000x128, .i32⟩
  | .hbm, ⟨19, _⟩ => ⟨S320000x128x1, .i32⟩
  | .hbm, ⟨20, _⟩ => ⟨S320000x128x1, .i32⟩
  | .hbm, ⟨21, _⟩ => ⟨S320000x128x2, .i32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Acc.lean ====
/-
  The value a tile accumulates, as a plain recursion over the edge rows, and what the indexed stores of the kernel do to
  an accumulator of 10000 rows and 8 columns, one place at a time.
-/
module

public import Idealize.ShloMosaic.Lib.SparseCore.Ops
public import Idealize.ShloMosaic.Lib.Tactic

@[expose] public section

noncomputable section

namespace Cert.Proof.Model

open Idealize.ShloMosaic

/-- `x` with `val 0, …, val (n - 1)` added in that order, those alone whose `row` is `r`. -/
def acc {X : Type} (op : X → X → X) (row : ℕ → ℕ) (val : ℕ → X) (r : ℕ) (x : X) : ℕ → X
  | 0 => x
  | n + 1 => if row n = r then op (acc op row val r x n) (val n) else acc op row val r x n

/-- The accumulator's shape, a vector register's, and a window's. -/
abbrev SA : Shape := ⟨2, ![10000, 8]⟩
abbrev SL : Shape := ⟨1, ![16]⟩
abbrev SW : Shape := ⟨2, ![1000, 8]⟩

/-- Lane `l` of a vector register. -/
def lane (l : ℕ) (h : l < 16) : SL.Idx := Shape.ofLane (d := ![16]) ⟨l, h⟩

theorem lane_val (l : ℕ) (h : l < 16) (a : Fin 1) : (lane l h a).val = l := by
  obtain rfl := Subsingleton.elim a 0; rfl

/-- Every lane is one of the sixteen. -/
theorem eq_lane (x : SL.Idx) : x = lane (x 0).val (x 0).isLt := by
  funext a; obtain rfl := Subsingleton.elim a 0; rfl

variable {F : FTy → Type} [FloatOps F]

/-- Whether lane `k` of the index vectors names place `j`. -/
abbrev names (idxs : Fin 2 → IVec SL 32) (k : Fin 16) (j : SA.Idx) : Prop :=
  (idxs 0 (lane k.val k.isLt)).toNat = (j 0).val ∧ (idxs 1 (lane k.val k.isLt)).toNat = (j 1).val

/-- One lane of an indexed store. -/
def laneStep (idxs : Fin 2 → IVec SL 32) (v : Vec F SL .f32) (h : ∀ a x, (idxs a x).toNat < SA.size a) (add : Bool)
    (g : Vec F SA .f32) (k : Fin 16) : Vec F SA .f32 :=
  let i : SA.Idx := idxAt (s := SA) idxs h (lane k.val k.isLt)
  let y : F .f32 := if add then Elt.idxAdd .f32 (g i) (v (lane k.val k.isLt)) else v (lane k.val k.isLt)
  fun j => if (∀ a, (j a).val = (i a).val) then y else g j

private theorem laneStep_at (idxs : Fin 2 → IVec SL 32) (v : Vec F SL .f32) (h : ∀ a x, (idxs a x).toNat < SA.size a) (add : Bool)
    (g : Vec F SA .f32) (k : Fin 16) (j : SA.Idx) :
    laneStep idxs v h add g k j = if names idxs k j then
      (if add then FloatOps.idxAddf (g j) (v (lane k.val k.isLt)) else v (lane k.val k.isLt)) else g j := by
  unfold laneStep
  by_cases hk : names idxs k j
  · have hj : (idxAt (s := SA) idxs h (lane k.val k.isLt) : SA.Idx) = j := by
      funext a; apply Fin.ext
      match a with
      | 0 => exact hk.1
      | 1 => exact hk.2
    dsimp only
    rw [if_pos hk, hj, if_pos fun _ => rfl]
    rfl
  · rw [if_neg hk]
    exact if_neg fun hc => hk ⟨(hc 0).symm, (hc 1).symm⟩

private theorem foldl_at (idxs : Fin 2 → IVec SL 32) (v : Vec F SL .f32) (h : ∀ a x, (idxs a x).toNat < SA.size a) (add : Bool)
    (L : List (Fin 16)) (f : Vec F SA .f32) (j : SA.Idx) :
    (L.foldl (laneStep idxs v h add) f) j
      = L.foldl (fun y k => if names idxs k j then (if add then FloatOps.idxAddf y (v (lane k.val k.isLt)) else v (lane k.val k.isLt)) else y) (f j) := by
  induction L generalizing f with
  | nil => rfl
  | cons k L ih => rw [List.foldl_cons, List.foldl_cons, ih, laneStep_at]

private theorem storeIdx_fold (f : Vec F SA .f32) (idxs : Fin 2 → IVec SL 32) (v : Vec F SL .f32) (h : ∀ a x, (idxs a x).toNat < SA.size a)
    (add : Bool) : storeIdx (s := SA) (d := ![16]) f idxs v (fun _ => 1#1) add h = (List.finRange 16).foldl (laneStep idxs v h add) f := by
  unfold storeIdx
  congr 1
  funext g k
  refine Eq.trans (if_pos (show (1#1 : BitVec 1) = 1 from rfl)) ?_
  unfold laneStep
  funext j
  dsimp only
  congr 1

private theorem finRange16 : List.finRange 16 = [0, 1, 2, 3, 4, 5, 6, 7, 8, 9, 10, 11, 12, 13, 14, 15] := by decide

/-- An indexed store, place by place: the lanes that name the place, lowest first. -/
theorem storeIdx_at (f : Vec F SA .f32) (idxs : Fin 2 → IVec SL 32) (v : Vec F SL .f32) (h : ∀ a x, (idxs a x).toNat < SA.size a)
    (add : Bool) (j : SA.Idx) :
    storeIdx (s := SA) (d := ![16]) f idxs v (fun _ => 1#1) add h j
      = (List.finRange 16).foldl (fun y k => if names idxs k j then
          (if add then FloatOps.idxAddf y (v (lane k.val k.isLt)) else v (lane k.val k.isLt)) else y) (f j) :=
  (congrFun (storeIdx_fold f idxs v h add) j).trans (foldl_at idxs v h add (List.finRange 16) f j)

/-- A fold over the sixteen lanes when lane `k` can name column `k % 8` alone: only two lanes count. -/
private theorem fold_two {X : Type} (g : Fin 16 → X → X) (p : Fin 16 → Prop) [DecidablePred p] (c : Fin 8) (x : X)
    (hp : ∀ k : Fin 16, k.val % 8 ≠ c.val → ¬ p k) :
    (List.finRange 16).foldl (fun y k => if p k then g k y else y) x
      = (let y := if p ⟨c.val, by omega⟩ then g ⟨c.val, by omega⟩ x else x
         if p ⟨c.val + 8, by omega⟩ then g ⟨c.val + 8, by omega⟩ y else y) := by
  rw [finRange16]
  simp only [List.foldl_cons, List.foldl_nil]
  have hn : ∀ k : Fin 16, k.val % 8 ≠ c.val → ∀ y z : X, (if p k then y else z) = z := fun k hk y z => if_neg (hp k hk)
  have h0 := hn 0; have h1 := hn 1; have h2 := hn 2; have h3 := hn 3; have h4 := hn 4; have h5 := hn 5; have h6 := hn 6; have h7 := hn 7
  have h8 := hn 8; have h9 := hn 9; have h10 := hn 10; have h11 := hn 11; have h12 := hn 12; have h13 := hn 13; have h14 := hn 14
  have h15 := hn 15
  fin_cases c
  · rw [h15 (by decide), h14 (by decide), h13 (by decide), h12 (by decide), h11 (by decide), h10 (by decide), h9 (by decide),
      h7 (by decide), h6 (by decide), h5 (by decide), h4 (by decide), h3 (by decide), h2 (by decide), h1 (by decide)]; rfl
  · rw [h15 (by decide), h14 (by decide), h13 (by decide), h12 (by decide), h11 (by decide), h10 (by decide), h8 (by decide),
      h7 (by decide), h6 (by decide), h5 (by decide), h4 (by decide), h3 (by decide), h2 (by decide), h0 (by decide)]; rfl
  · rw [h15 (by decide), h14 (by decide), h13 (by decide), h12 (by decide), h11 (by decide), h9 (by decide), h8 (by decide),
      h7 (by decide), h6 (by decide), h5 (by decide), h4 (by decide), h3 (by decide), h1 (by decide), h0 (by decide)]; rfl
  · rw [h15 (by decide), h14 (by decide), h13 (by decide), h12 (by decide), h10 (by decide), h9 (by decide), h8 (by decide),
      h7 (by decide), h6 (by decide), h5 (by decide), h4 (by decide), h2 (by decide), h1 (by decide), h0 (by decide)]; rfl
  · rw [h15 (by decide), h14 (by decide), h13 (by decide), h11 (by decide), h10 (by decide), h9 (by decide), h8 (by decide),
      h7 (by decide), h6 (by decide), h5 (by decide), h3 (by decide), h2 (by decide), h1 (by decide), h0 (by decide)]; rfl
  · rw [h15 (by decide), h14 (by decide), h12 (by decide), h11 (by decide), h10 (by decide), h9 (by decide), h8 (by decide),
      h7 (by decide), h6 (by decide), h4 (by decide), h3 (by decide), h2 (by decide), h1 (by decide), h0 (by decide)]; rfl
  · rw [h15 (by decide), h13 (by decide), h12 (by decide), h11 (by decide), h10 (by decide), h9 (by decide), h8 (by decide),
      h7 (by decide), h5 (by decide), h4 (by decide), h3 (by decide), h2 (by decide), h1 (by decide), h0 (by decide)]; rfl
  · rw [h14 (by decide), h13 (by decide), h12 (by decide), h11 (by decide), h10 (by decide), h9 (by decide), h8 (by decide),
      h6 (by decide), h5 (by decide), h4 (by decide), h3 (by decide), h2 (by decide), h1 (by decide), h0 (by decide)]; rfl

/-- Lane `k`'s column is `k % 8`: what the kernel's second index vector holds. -/
def ColsOK (c : IVec SL 32) : Prop := ∀ k (h : k < 16), (c (lane k h)).toNat = k % 8

/-- A place of the accumulator. -/
def at2 {n : ℕ} (r : Fin n) (c : Fin 8) : (⟨2, ![n, 8]⟩ : Shape).Idx := fun a => match a with | 0 => r | 1 => c

/-- An indexed store at lanes `0..7` of one row and `8..15` of another, column `k % 8` for lane `k`: what place `j` holds. -/
theorem storeIdx_two (f : Vec F SA .f32) (idxs : Fin 2 → IVec SL 32) (v : Vec F SL .f32) (h : ∀ a x, (idxs a x).toNat < SA.size a)
    (hcol : ColsOK (idxs 1)) (add : Bool) (j : SA.Idx) (h1 : (j 1).val < 16) (h2 : (j 1).val + 8 < 16) :
    storeIdx (s := SA) (d := ![16]) f idxs v (fun _ => 1#1) add h j
      = (let y := if (idxs 0 (lane (j 1).val h1)).toNat = (j 0).val then
            (if add then FloatOps.idxAddf (f j) (v (lane (j 1).val h1)) else v (lane (j 1).val h1)) else f j
         if (idxs 0 (lane ((j 1).val + 8) h2)).toNat = (j 0).val then
            (if add then FloatOps.idxAddf y (v (lane ((j 1).val + 8) h2)) else v (lane ((j 1).val + 8) h2)) else y) := by
  have hj : (j 1).val < 8 := (j 1).isLt
  rw [storeIdx_at]
  rw [fold_two (fun k y => if add then FloatOps.idxAddf y (v (lane k.val k.isLt)) else v (lane k.val k.isLt)) (fun k => names idxs k j)
    ⟨(j 1).val, hj⟩ (f j) fun k hk hn => hk (by rw [← hn.2, hcol])]
  have e1 : names idxs ⟨(j 1).val, h1⟩ j ↔ (idxs 0 (lane (j 1).val h1)).toNat = (j 0).val :=
    ⟨fun hn => hn.1, fun hn => ⟨hn, by show (idxs 1 (lane (j 1).val h1)).toNat = _; rw [hcol]; omega⟩⟩
  have e2 : names idxs ⟨(j 1).val + 8, h2⟩ j ↔ (idxs 0 (lane ((j 1).val + 8) h2)).toNat = (j 0).val :=
    ⟨fun hn => hn.1, fun hn => ⟨hn, by show (idxs 1 (lane ((j 1).val + 8) h2)).toNat = _; rw [hcol]; omega⟩⟩
  simp only [e1, e2]

/-- One chunk of two edge rows: the accumulator after `n` edge rows becomes the one after `n + 2`, when lane `k` carries
    row `n + k / 8`, column `k % 8` of the indices and of the sources. -/
theorem storeIdx_step (row : ℕ → ℕ → ℕ) (val : ℕ → ℕ → F .f32) (init : Vec F SA .f32) (n : ℕ)
    (idxs : Fin 2 → IVec SL 32) (v : Vec F SL .f32) (h : ∀ a x, (idxs a x).toNat < SA.size a) (hcol : ColsOK (idxs 1))
    (hrow : ∀ k (hk : k < 16), (idxs 0 (lane k hk)).toNat = row (n + k / 8) (k % 8))
    (hval : ∀ k (hk : k < 16), v (lane k hk) = val (n + k / 8) (k % 8)) :
    storeIdx (s := SA) (d := ![16])
        (fun j => acc FloatOps.idxAddf (fun e => row e (j 1).val) (fun e => val e (j 1).val) (j 0).val (init j) n)
        idxs v (fun _ => 1#1) true h
      = fun j => acc FloatOps.idxAddf (fun e => row e (j 1).val) (fun e => val e (j 1).val) (j 0).val (init j) (n + 2) := by
  funext j
  have hj : (j 1).val < 8 := (j 1).isLt
  have d1 : (j 1).val / 8 = 0 := by omega
  have m1 : (j 1).val % 8 = (j 1).val := by omega
  have d2 : ((j 1).val + 8) / 8 = 1 := by omega
  have m2 : ((j 1).val + 8) % 8 = (j 1).val := by omega
  rw [storeIdx_two _ idxs v h hcol true j (by omega) (by omega)]
  simp only [hrow, hval, d1, m1, d2, m2, Nat.add_zero, if_true]
  rfl

/-- Zeroing two rows: the accumulator whose first `n` rows are `z` becomes one whose first `n + 2` are. -/
theorem storeIdx_fill (z : F .f32) (f : Vec F SA .f32) (n : ℕ) (idxs : Fin 2 → IVec SL 32) (v : Vec F SL .f32)
    (h : ∀ a x, (idxs a x).toNat < SA.size a) (hcol : ColsOK (idxs 1))
    (hrow : ∀ k (hk : k < 16), (idxs 0 (lane k hk)).toNat = n + k / 8) (hval : ∀ x, v x = z)
    (hf : ∀ j : SA.Idx, (j 0).val < n → f j = z) (j : SA.Idx) (hjn : (j 0).val < n + 2) :
    storeIdx (s := SA) (d := ![16]) f idxs v (fun _ => 1#1) false h j = z := by
  have hj : (j 1).val < 8 := (j 1).isLt
  rw [storeIdx_two _ idxs v h hcol false j (by omega) (by omega)]
  simp only [hrow, hval, Bool.false_eq_true, if_false]
  split
  · rfl
  · split
    · rfl
    · exact hf j (by omega)

/-! ## The arrays of the program -/

/-- The shapes of the edge arrays, of the input, and of the two partial sums. -/
abbrev SE : Shape := ⟨2, ![320000, 128]⟩
abbrev SN : Shape := ⟨2, ![10000, 128]⟩
abbrev SP : Shape := ⟨3, ![2, 10000, 128]⟩

/-- Edge row `e`, column `c` (each taken into range, so that every pair of numbers names an element). -/
def edge (e c : ℕ) : SE.Idx := fun a => match a with
  | 0 => ⟨e % 320000, Nat.mod_lt _ (by decide)⟩
  | 1 => ⟨c % 128, Nat.mod_lt _ (by decide)⟩

/-- Node `r`, column `c`, likewise. -/
def node (r c : ℕ) : SN.Idx := fun a => match a with
  | 0 => ⟨r % 10000, Nat.mod_lt _ (by decide)⟩
  | 1 => ⟨c % 128, Nat.mod_lt _ (by decide)⟩

theorem edge_val0 {e c : ℕ} (h : e < 320000) : (edge e c 0).val = e := Nat.mod_eq_of_lt h
theorem edge_val1 {e c : ℕ} (h : c < 128) : (edge e c 1).val = c := Nat.mod_eq_of_lt h
theorem node_val0 {e c : ℕ} (h : e < 10000) : (node e c 0).val = e := Nat.mod_eq_of_lt h
theorem node_val1 {e c : ℕ} (h : c < 128) : (node e c 1).val = c := Nat.mod_eq_of_lt h

theorem eq_edge (i : SE.Idx) {e c : ℕ} (h0 : (i 0).val = e) (h1 : (i 1).val = c) : i = edge e c := by
  funext a; apply Fin.ext
  match a with
  | 0 => exact h0.trans (Nat.mod_eq_of_lt (h0 ▸ (i 0).isLt)).symm
  | 1 => exact h1.trans (Nat.mod_eq_of_lt (h1 ▸ (i 1).isLt)).symm

theorem eq_node (i : SN.Idx) {e c : ℕ} (h0 : (i 0).val = e) (h1 : (i 1).val = c) : i = node e c := by
  funext a; apply Fin.ext
  match a with
  | 0 => exact h0.trans (Nat.mod_eq_of_lt (h0 ▸ (i 0).isLt)).symm
  | 1 => exact h1.trans (Nat.mod_eq_of_lt (h1 ▸ (i 1).isLt)).symm

/-- The node edge row `e` of half `c` names in column `k`, and what it adds there. -/
def rowOf (idx : Vec F SE .i32) (c e k : ℕ) : ℕ := (idx (edge (160000 * c + e) k)).toNat
def valOf (src : Vec F SE .f32) (c e k : ℕ) : F .f32 := src (edge (160000 * c + e) k)

/-- What half `c` starts from at node `r`, column `k`: the input for half 0, zero for the other. -/
def startOf (inp : Vec F SN .f32) (c r k : ℕ) : F .f32 := if c = 0 then inp (node r k) else Scalar.ofBits .f32 0x00000000#32

/-- Half `c`'s sum at node `r`, column `k` after `n` of its edge rows. -/
def half (inp : Vec F SN .f32) (idx : Vec F SE .i32) (src : Vec F SE .f32) (c r k n : ℕ) : F .f32 :=
  acc FloatOps.idxAddf (fun e => rowOf idx c e k) (fun e => valOf src c e k) r (startOf inp c r k) n

/-- A tile's accumulator (half `c`, columns `8 s, …, 8 s + 7`) after `n` edge rows. -/
def tile (inp : Vec F SN .f32) (idx : Vec F SE .i32) (src : Vec F SE .f32) (c s n : ℕ) : Vec F SA .f32 :=
  fun j => half inp idx src c (j 0).val (8 * s + (j 1).val) n

/-- The two halves' sums, all 160000 edge rows of each done. -/
def partials (inp : Vec F SN .f32) (idx : Vec F SE .i32) (src : Vec F SE .f32) : Vec F SP .f32 :=
  fun x => half inp idx src (x 0).val (x 1).val (x 2).val 160000

/-- The combined result. -/
def total (inp : Vec F SN .f32) (idx : Vec F SE .i32) (src : Vec F SE .f32) : Vec F SN .f32 :=
  fun x => FloatOps.addf (half inp idx src 0 (x 0).val (x 1).val 160000) (half inp idx src 1 (x 0).val (x 1).val 160000)

/-- The windows of the two edge arrays a tile fetches `e` rows into its half. -/
def winI (idx : Vec F SE .i32) (c s e : ℕ) : Vec F SW .i32 := fun i => idx (edge (160000 * c + (e + (i 0).val)) (8 * s + (i 1).val))
def winV (src : Vec F SE .f32) (c s e : ℕ) : Vec F SW .f32 := fun i => src (edge (160000 * c + (e + (i 0).val)) (8 * s + (i 1).val))

/-- Every node number in the index array names a row of the input. -/
def InRows (idx : Vec F SE .i32) : Prop := ∀ i, (idx i).toNat < 10000

theorem tile_zero (inp : Vec F SN .f32) (idx : Vec F SE .i32) (src : Vec F SE .f32) (c s : ℕ) (j : SA.Idx) :
    tile inp idx src c s 0 j = startOf inp c (j 0).val (8 * s + (j 1).val) := rfl

/-- One chunk over a window: two edge rows loaded at rows `2 k`, `2 k + 1` of the window, added into the accumulator. -/
theorem tile_step (inp : Vec F SN .f32) (idx : Vec F SE .i32) (src : Vec F SE .f32) (c s e k : ℕ)
    (li : Fin 2 → IVec SL 32) (hli : ∀ a x, (li a x).toNat < SW.size a) (hc : ColsOK (li 1))
    (hr : ∀ l (hl : l < 16), (li 0 (lane l hl)).toNat = 2 * k + l / 8)
    (h : ∀ a x, ((![loadIdx (s := SW) (t := SL) (winI idx c s e) li hli, li 1] : Fin 2 → IVec SL 32) a x).toNat < SA.size a) :
    storeIdx (s := SA) (d := ![16]) (tile inp idx src c s (e + 2 * k))
        (![loadIdx (s := SW) (t := SL) (winI idx c s e) li hli, li 1] : Fin 2 → IVec SL 32)
        (loadIdx (s := SW) (t := SL) (winV src c s e) li hli) (fun _ => 1#1) true h
      = tile inp idx src c s (e + 2 * (k + 1)) := by
  have key : ∀ l (hl : l < 16), ∀ a, (idxAt (s := SW) li hli (lane l hl) a).val = (if a = 0 then 2 * k + l / 8 else l % 8) := by
    intro l hl a
    match a with
    | 0 => exact hr l hl
    | 1 => exact hc l hl
  refine (storeIdx_step (fun e' k' => rowOf idx c e' (8 * s + k')) (fun e' k' => valOf src c e' (8 * s + k'))
    (fun j => startOf inp c (j 0).val (8 * s + (j 1).val)) (e + 2 * k)
    (![loadIdx (s := SW) (t := SL) (winI idx c s e) li hli, li 1] : Fin 2 → IVec SL 32)
    (loadIdx (s := SW) (t := SL) (winV src c s e) li hli) h hc ?_ ?_).trans ?_
  · intro l hl
    show (winI idx c s e (idxAt (s := SW) li hli (lane l hl))).toNat = _
    unfold winI rowOf
    rw [key l hl 0, key l hl 1, if_pos rfl, if_neg (by decide), ← Nat.add_assoc e]
  · intro l hl
    show winV src c s e (idxAt (s := SW) li hli (lane l hl)) = _
    unfold winV valOf
    rw [key l hl 0, key l hl 1, if_pos rfl, if_neg (by decide), ← Nat.add_assoc e]
  · rfl

end Cert.Proof.Model

end
-- ==== Proof.Frame.lean ====
/-
  The frame claim of the kernel as printed: it runs, leaves its arguments as they were, and every counter back at zero.
-/
module

public import proofs.«01_k».proof.Proof.Launch

@[expose] public section

noncomputable section

namespace Cert.Proof.Kern

open Idealize.ShloMosaic Idealize.SL.Sem

theorem frame : Cert.quiescent_Kernel := fun m ρ hpre =>
  (θ_run Cert.Kernel.defs _ _).mono (fun _ h => ⟨fun c => ⟨(h.1 c).1, (h.1 c).2.1, (h.1 c).2.2.1⟩, h.2⟩) (run_main (F := Bits) m ρ (ok_of_pre m hpre))

end Cert.Proof.Kern

end
-- ==== Proof.IdealSetup.lean ====
/-
  The program as the launch theorem sees it: one vector call on two SparseCores of sixteen tiles, then one pipelined region on
  the TensorCore. This module names the buffers, states what a call's handshakes carry (`P`), and opens a tile's own buffers and
  semaphores by name.

  A tile's share of the arrays: a read share of the three operands (each whole: a tile reads a column block of every row) and, in
  full, its own piece of the partial sums — half `c`, columns `8 s, …, 8 s + 7`. It brings the piece back at the partial sums'
  final contents (`Model.partials`).
-/
module

public import proofs.«01_k».proof.Defs
public import proofs.«01_k».proof.Proof.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KernI

open Cert.KernelIdeal Cert.KernelIdeal.Gen
open Cert.Proof.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the region's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-- The region's rounds: the middle factor. -/
def EP : Emb UP (MT nD τ sig (HIx 1) (Elt F) ℕ UU ℕ) := (Emb.inl : Emb UP (UP × Counters)).trans embR
instance EP_lands : (EP (F := F) : Emb UP 𝕄).LandsIn (upEmb : UEmb _ 𝕄) := by unfold EP; infer_instance

/-! ## The launch memory and the buffers -/

variable (m : (ℓ : Loc nD τ sig) → Buf (Elt F) ℓ) (ρ : Dev nD → PrngReg)

/-- The input, the indices, the source, the partial sums and the result, as locations of device `d`. -/
abbrev xLoc (d : Dev nD) : Loc nD τ sig := (SparseCore.T d).loc main_arg0
abbrev iLoc (d : Dev nD) : Loc nD τ sig := (SparseCore.T d).loc main_arg1
abbrev sLoc (d : Dev nD) : Loc nD τ sig := (SparseCore.T d).loc main_arg2
abbrev pLoc (d : Dev nD) : Loc nD τ sig := (SparseCore.T d).loc main_v0
abbrev oLoc (d : Dev nD) : Loc nD τ sig := (SparseCore.T d).loc main_v1

/-- The operands' launch contents, as arrays. -/
abbrev inp (d : Dev nD) : Vec F SN .f32 := m (xLoc d)
abbrev idx (d : Dev nD) : Vec F SE .i32 := m (iLoc d)
abbrev src (d : Dev nD) : Vec F SE .f32 := m (sLoc d)

/-- What the index array must satisfy: every entry names a row of the input. -/
def PreOK : Prop := ∀ d : Dev nD, InRows (idx m d)

/-- Tile `(c, s)`'s read share of an operand: core `c`'s share is the whole array's read token `c`, the tile's is that one's
    read token `s`. -/
def rdC (c : ℕ) : PosShare TreeShare := Transfers.shareTokN fullShare c
def rd (c s : ℕ) : PosShare TreeShare := Transfers.shareTokN (rdC c) s

/-- Half `c` of the partial sums, and tile `(c, s)`'s piece of it. -/
def halfSet (c : ℕ) : Finset SP.Idx := Finset.univ.filter fun x => (x 0).val = c
def piece (c s : ℕ) : Finset SP.Idx := Finset.univ.filter fun x => (x 0).val = c ∧ (x 2).val / 8 = s

variable [FloatOps F]

/-- The partial sums' final contents on device `d`. -/
def pFin (d : Dev nD) : Buf (Elt F) (pLoc d) := partials (inp m d) (idx m d) (src m d)
/-- The result's final contents on device `d`. -/
def oFin (d : Dev nD) : Buf (Elt F) (oLoc d) := total (inp m d) (idx m d) (src m d)

/-! ## What the handshakes carry -/

/-- The three operands at share `q`. -/
abbrev rdPts (d : Dev nD) (q : PosShare TreeShare) : sProp 𝕄 :=
  iprop((xLoc d ↦{q} m (xLoc d)) ∗ (iLoc d ↦{q} m (iLoc d)) ∗ (sLoc d ↦{q} m (sLoc d)))
abbrev pPts (d : Dev nD) (A : Finset SP.Idx) (f : Buf (Elt F) (pLoc d)) : sProp 𝕄 := pLoc d ↦[A]{fullShare} f

/-- The call takes, per SparseCore, a read share of the operands and a half of the partial sums; a tile takes its share and piece of
    those; each brings its piece back at the final contents. -/
def P : (K (F := F)).Pay (nD := nD) (Val := Elt F) (Name := ℕ) (U := UU) where
  st := fun q d c => match q with | 0 => iprop(rdPts m d (rdC c.val) ∗ pPts d (halfSet c.val) (m (pLoc d)))
  dn := fun q d c => match q with | 0 => iprop(rdPts m d (rdC c.val) ∗ pPts d (halfSet c.val) (pFin m d))
  go := fun q d c i => match q with | 0 => iprop(rdPts m d (rd c.val i.val) ∗ pPts d (piece c.val i.val) (m (pLoc d)))
  td := fun q d c i => match q with | 0 => iprop(rdPts m d (rd c.val i.val) ∗ pPts d (piece c.val i.val) (pFin m d))
  x := fun _ _ => iprop(emp)

instance P_storable : (P (F := F) m).IsStorable where
  st q d c := match q with
    | 0 => (inferInstance : BI.Storable (upEmb : UEmb _ 𝕄) iprop(rdPts m d (rdC c.val) ∗ pPts d (halfSet c.val) (m (pLoc d))))
  dn q d c := match q with
    | 0 => (inferInstance : BI.Storable (upEmb : UEmb _ 𝕄) iprop(rdPts m d (rdC c.val) ∗ pPts d (halfSet c.val) (pFin m d)))
  go q d c i := match q with
    | 0 => (inferInstance : BI.Storable (upEmb : UEmb _ 𝕄) iprop(rdPts m d (rd c.val i.val) ∗ pPts d (piece c.val i.val) (m (pLoc d))))
  td q d c i := match q with
    | 0 => (inferInstance : BI.Storable (upEmb : UEmb _ 𝕄) iprop(rdPts m d (rd c.val i.val) ∗ pPts d (piece c.val i.val) (pFin m d)))

/-! ## A tile's own buffers and semaphores -/

section Own

variable (d : Dev nD) (L : grid0.Coords)

abbrev cV (L : grid0.Coords) : Fin τ.nSC := (L 0).castLE hcore0
abbrev jV (L : grid0.Coords) : Fin τ.nSub := (L 1).castLE hsub0
/-- The tile's SparseCore and its place there, as numbers. -/
abbrev cN (L : grid0.Coords) : ℕ := (L 0).val
abbrev sN (L : grid0.Coords) : ℕ := (L 1).val
omit [FloatOps F] in
theorem cN_lt : cN L < 2 := (L 0).isLt
omit [FloatOps F] in
theorem sN_lt : sN L < 16 := (L 1).isLt

/-- The four scoped DMA cells: the input's, the indices', the source's and the write-out's. -/
abbrev cell0 (d : Dev nD) (L : grid0.Coords) : GSem nD τ sig := (V d (cV L) (jV L), .dma cc0_scoped0.sem)
abbrev cell1 (d : Dev nD) (L : grid0.Coords) : GSem nD τ sig := (V d (cV L) (jV L), .dma cc0_scoped1.sem)
abbrev cell2 (d : Dev nD) (L : grid0.Coords) : GSem nD τ sig := (V d (cV L) (jV L), .dma cc0_scoped2.sem)
abbrev cell3 (d : Dev nD) (L : grid0.Coords) : GSem nD τ sig := (V d (cV L) (jV L), .dma cc0_scoped3.sem)

omit [FloatOps F] in
/-- The tile's own cells at zero are those four at zero and the rest. -/
theorem ownSems0_V :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide, (mem_ownCells (g := cell3 d L)).mpr ⟨rfl, by
        show (SemLoc.dma cc0_scoped3.sem : SemLoc sig).isScoped .scVector = true; decide⟩⟩⟩⟩)]

omit [FloatOps F] in
/-- The tile's own buffers are the accumulator and the two windows, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

end Own

end Cert.Proof.KernI

end
-- ==== Proof.IdealViews.lean ====
/-
  What one tile's pure values and views are: the index vectors it computes (columns `lane mod 8`, rows two at a time), the
  windows its copies read, and the piece of the partial sums its last copy writes.
-/
module

public import proofs.«01_k».proof.Proof.IdealSetup
public import Idealize.ShloMosaic.Lib.WordArith.Masks
public import Idealize.ShloMosaic.Lib.ValueLayout

@[expose] public section

noncomputable section

namespace Cert.Proof.KernI

open Cert.KernelIdeal Cert.KernelIdeal.Gen
open Cert.Proof.Model

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI

variable {F : FTy → Type}

local notation "𝕄" => MT nD τ sig (HIx 1) (Elt F) ℕ UU ℕ

-- the kernel's memrefs as the body table passes them
local notation "xV" => (Memref.whole Cert.KernelIdeal.main_arg0_scv : Memref Cert.KernelIdeal.sig Kind.scVector Space.hbm Cert.KernelIdeal.S10000x128 EltTy.f32)
local notation "iV" => (Memref.whole Cert.KernelIdeal.main_arg1_scv : Memref Cert.KernelIdeal.sig Kind.scVector Space.hbm Cert.KernelIdeal.S320000x128 EltTy.i32)
local notation "sV" => (Memref.whole Cert.KernelIdeal.main_arg2_scv : Memref Cert.KernelIdeal.sig Kind.scVector Space.hbm Cert.KernelIdeal.S320000x128 EltTy.f32)
local notation "pV" => (Memref.whole Cert.KernelIdeal.main_v0_scv : Memref Cert.KernelIdeal.sig Kind.scVector Space.hbm Cert.KernelIdeal.S2x10000x128 EltTy.f32)

/-! ## The loops' trip counts and the two conditions -/

theorem trips1 : k0_t1_loop.trips = 5000 := by decide +kernel
theorem trips2 : k0_t2_loop.trips = 160 := by decide +kernel
theorem trips3 : k0_t3_loop.trips = 500 := by decide +kernel
theorem lt1 (t : Fin k0_t1_loop.trips) : t.val < 5000 := Nat.lt_of_lt_of_eq t.isLt trips1
theorem lt2 (t : Fin k0_t2_loop.trips) : t.val < 160 := Nat.lt_of_lt_of_eq t.isLt trips2
theorem lt3 (t : Fin k0_t3_loop.trips) : t.val < 500 := Nat.lt_of_lt_of_eq t.isLt trips3

/-- The first condition holds on SparseCore 0 alone, the second on the other alone. -/
theorem cond1_iff (L : grid0.Coords) : k0_cond1 L = 1#1 ↔ cN L = 0 := by
  have h : cN L < 2 := cN_lt L
  unfold k0_cond1
  generalize hv : (L 0).val = v
  have hv' : cN L = v := hv
  rw [hv'] at h ⊢
  clear hv hv'
  interval_cases v <;> decide +kernel
theorem cond2_iff (L : grid0.Coords) : k0_cond2 L = 1#1 ↔ ¬ cN L = 0 := by
  have h : cN L < 2 := cN_lt L
  unfold k0_cond2
  generalize hv : (L 0).val = v
  have hv' : cN L = v := hv
  rw [hv'] at h ⊢
  clear hv hv'
  interval_cases v <;> decide +kernel

/-! ## The index vectors -/

/-- Every index of a vector of sixteen is a lane. -/
theorem exists_lane (x : S16.Idx) : ∃ (k : ℕ) (hk : k < 16), x = lane k hk := ⟨_, _, eq_lane x⟩

theorem cols_pay1 : ColsOK k0_pay1 := by
  have h : ∀ k : Fin 16, (k0_pay1 (lane k.val k.isLt)).toNat = k.val % 8 := by decide +kernel
  exact fun k hk => h ⟨k, hk⟩

theorem pay2_val (k : ℕ) (hk : k < 16) : (k0_pay2 (lane k hk)).toNat = k / 8 := by
  have h : ∀ k : Fin 16, (k0_pay2 (lane k.val k.isLt)).toNat = k.val / 8 := by decide +kernel
  exact h ⟨k, hk⟩

theorem two_rows (t : ℕ) (ht : t < 5000) (k : ℕ) (hk : k < 16) :
    (k0_pay2 (lane k hk) + 2#32 * Scf.iv 0#32 1#32 t).toNat = 2 * t + k / 8 := by
  rw [BitVec.toNat_add, BitVec.toNat_mul, pay2_val, WordArith.toNat_iv_zero_one t (by omega)]
  show (k / 8 + 2 * t % 2 ^ 32) % 2 ^ 32 = _
  omega

theorem pay4_val (t : Fin k0_t1_loop.trips) (k : ℕ) (hk : k < 16) : (k0_pay4 t (lane k hk)).toNat = 2 * t.val + k / 8 :=
  two_rows t.val (lt1 t) k hk
theorem pay5_val (t : Fin k0_t3_loop.trips) (k : ℕ) (hk : k < 16) : (k0_pay5 t (lane k hk)).toNat = 2 * t.val + k / 8 :=
  two_rows t.val (Nat.lt_trans (lt3 t) (by decide)) k hk

theorem pay3_val [FloatOps F] (x : S16.Idx) : k0_pay3 (F := F) x = Scalar.ofBits .f32 0x00000000#32 := rfl

/-- The three checks the body makes of its index vectors pass. -/
theorem chk1_ok (L : grid0.Coords) (t : Fin k0_t1_loop.trips) : k0_chk1 L k0_pay1 (k0_pay4 t) := by
  intro _ a x
  have ht : t.val < 5000 := lt1 t
  obtain ⟨k, hk, rfl⟩ := exists_lane x
  match a with
  | 0 => show (k0_pay4 t (lane _ _)).toNat < 10000; rw [pay4_val]; omega
  | 1 => show (k0_pay1 (lane _ _)).toNat < 8; rw [cols_pay1]; omega

theorem chk2_ok (t : Fin k0_t3_loop.trips) : k0_chk2 k0_pay1 (k0_pay5 t) := by
  have h : ∀ a x, ((![k0_pay5 t, k0_pay1] : Fin 2 → IVec S16 32) a x).toNat < S1000x8.size a := by
    intro a x
    have ht : t.val < 500 := lt3 t
    obtain ⟨k, hk, rfl⟩ := exists_lane x
    match a with
    | 0 => show (k0_pay5 t (lane _ _)).toNat < 1000; rw [pay5_val]; omega
    | 1 => show (k0_pay1 (lane _ _)).toNat < 8; rw [cols_pay1]; omega
  exact ⟨h, h⟩

theorem chk3_ok (v : IVec S16 32) (hv : ∀ x, (v x).toNat < 10000) : k0_chk3 k0_pay1 v := by
  intro a x
  match a with
  | 0 => exact hv x
  | 1 =>
    show (k0_pay1 x).toNat < 8
    obtain ⟨k, hk, rfl⟩ := exists_lane x
    rw [cols_pay1]; exact Nat.mod_lt _ (by decide)

/-! ## The views -/

section Views

variable (d : Dev nD) (L : grid0.Coords)

/-- The window a trip fetches of each edge array, and the input's column block, as the body slices them. -/
abbrev winK (L : grid0.Coords) (t : Fin k0_t2_loop.trips) : Rect S320000x128 := Rect.unit (s := S320000x128) (k0_off2 L t) S1000x8.size (k0_off2_inb L t)
abbrev iWinK (L : grid0.Coords) (t : Fin k0_t2_loop.trips) : Memref sig .scVector .hbm S1000x8 .i32 := (iV).slice (winK L t) (fun _ => rfl)
abbrev sWinK (L : grid0.Coords) (t : Fin k0_t2_loop.trips) : Memref sig .scVector .hbm S1000x8 .f32 := (sV).slice (winK L t) (fun _ => rfl)
abbrev xColK (L : grid0.Coords) (h1 : k0_cond1 L = 1#1) : Memref sig .scVector .hbm S10000x8 .f32 :=
  (xV).slice (Rect.unit (s := S10000x128) (k0_off1 L) S10000x8.size (k0_off1_inb L h1)) (fun _ => rfl)
/-- The piece of the partial sums the tile writes. -/
abbrev pRectK (L : grid0.Coords) : Rect S2x10000x128 := Rect.unit (s := S2x10000x128) (k0_off3 L) S1x10000x8.size (k0_off3_inb L)
abbrev pPieceK (L : grid0.Coords) : Memref sig .scVector .hbm S10000x8 .f32 :=
  ((pV).slice (pRectK L) (fun _ => rfl)).squeeze S10000x8 squeezes_S1x10000x8_S10000x8

theorem winK_eq (t : Fin k0_t2_loop.trips) (j : S1000x8.Idx) :
    (winK L t).emb j = edge (160000 * cN L + (1000 * t.val + (j 0).val)) (8 * sN L + (j 1).val) := by
  have h := k0_off2_eq L t
  refine eq_edge _ ?_ ?_
  · show k0_off2 L t 0 + 1 * (j 0).val = _
    rw [h]
    show 160000 * cN L + 1000 * t.val + 1 * (j 0).val = _
    omega
  · show k0_off2 L t 1 + 1 * (j 1).val = _
    rw [h]
    show 8 * sN L + 1 * (j 1).val = _
    omega

/-- What a trip's two copies read. -/
theorem read_iWin (t : Fin k0_t2_loop.trips) (f : Vec F SE .i32) :
    (iWinK L t).view.read (Elt F) f = winI f (cN L) (sN L) (1000 * t.val) := by
  funext j
  refine ((View.read_apply _ _).trans (cast_eq _ _)).trans ?_
  exact congrArg f (winK_eq L t j)
theorem read_sWin (t : Fin k0_t2_loop.trips) (f : Vec F SE .f32) :
    (sWinK L t).view.read (Elt F) f = winV f (cN L) (sN L) (1000 * t.val) := by
  funext j
  refine ((View.read_apply _ _).trans (cast_eq _ _)).trans ?_
  exact congrArg f (winK_eq L t j)

/-- What core 0's first copy reads: the accumulator's start. -/
theorem read_xCol [FloatOps F] (h1 : k0_cond1 L = 1#1) (f : Vec F SN .f32) (fi : Vec F SE .i32) (fs : Vec F SE .f32) :
    (xColK L h1).view.read (Elt F) f = tile f fi fs (cN L) (sN L) 0 := by
  have h := k0_off1_eq L
  funext j
  rw [tile_zero, startOf, if_pos ((cond1_iff L).mp h1)]
  refine ((View.read_apply _ _).trans (cast_eq _ _)).trans (congrArg f (eq_node _ ?_ ?_))
  · show k0_off1 L 0 + 1 * (j 0).val = _
    rw [h]
    show 0 + 1 * (j 0).val = _
    omega
  · show k0_off1 L 1 + 1 * (j 1).val = _
    rw [h]
    show 8 * sN L + 1 * (j 1).val = _
    omega

/-- Element `j` of the accumulator lands at half `c`, row `j 0`, column `8 s + j 1`. -/
theorem pPieceK_emb (j : S10000x8.Idx) :
    ((((pPieceK L).view.emb j : SP.Idx) 0).val = cN L ∧ (((pPieceK L).view.emb j : SP.Idx) 1).val = (j 0).val)
      ∧ (((pPieceK L).view.emb j : SP.Idx) 2).val = 8 * sN L + (j 1).val := by
  have h := k0_off3_eq L
  have hr : Shape.reshapeEquiv squeezes_S1x10000x8_S10000x8.numel_eq j = ValueIdx.ix3 (⟨0, Nat.one_pos⟩ : Fin 1) (j 0) (j 1) := by
    have hj : j = ValueIdx.ix2 (j 0) (j 1) := by
      funext a
      match a with
      | 0 => rfl
      | 1 => rfl
    conv_lhs => rw [hj]
    exact reshapeEquiv_ix2_1ab _ (j 0) (j 1)
  have he : ((pPieceK L).view.emb j : SP.Idx) = (pRectK L).emb (ValueIdx.ix3 (⟨0, Nat.one_pos⟩ : Fin 1) (j 0) (j 1)) :=
    congrArg (fun z : S1x10000x8.Idx => (pRectK L).emb z) hr
  rw [he]
  refine ⟨⟨?_, ?_⟩, ?_⟩
  · show k0_off3 L 0 + 1 * 0 = _
    rw [h]; rfl
  · show k0_off3 L 1 + 1 * (j 0).val = _
    rw [h]
    show 0 + 1 * (j 0).val = _
    omega
  · show k0_off3 L 2 + 1 * (j 1).val = _
    rw [h]
    show 8 * sN L + 1 * (j 1).val = _
    omega

/-- The view's elements are the tile's piece. -/
theorem set_pPieceK : (pPieceK L).view.set = piece (cN L) (sN L) := by
  have h := k0_off3_eq L
  show (((pV).view.slice (pRectK L)).reshape S10000x8 squeezes_S1x10000x8_S10000x8.numel_eq).set = _
  rw [View.set_reshape, View.set_slice]
  refine Eq.trans (Finset.map_refl) ?_
  ext x
  rw [Rect.mem_set_unit, piece, Finset.mem_filter, h]
  have h1 : (x 1).val < 10000 := (x 1).isLt
  constructor
  · intro hx
    have h0 := hx 0; have h2 := hx 2
    change cN L ≤ (x 0).val ∧ (x 0).val < cN L + 1 at h0
    change 8 * sN L ≤ (x 2).val ∧ (x 2).val < 8 * sN L + 8 at h2
    refine ⟨Finset.mem_univ _, ?_, ?_⟩ <;> omega
  · rintro ⟨-, h0, h2⟩ a
    match a with
    | 0 => show cN L ≤ (x 0).val ∧ (x 0).val < cN L + 1; omega
    | 1 => show 0 ≤ (x 1).val ∧ (x 1).val < 0 + 10000; omega
    | 2 => show 8 * sN L ≤ (x 2).val ∧ (x 2).val < 8 * sN L + 8; omega

variable [FloatOps F] (m : (ℓ : Loc nD τ sig) → Buf (Elt F) ℓ)

/-- The piece written with the finished accumulator agrees there with the partial sums' final contents. -/
theorem write_pPieceK (f : Buf (Elt F) (pLoc d)) (i : SP.Idx) (hi : i ∈ piece (cN L) (sN L)) :
    (pPieceK L).view.writes (Elt F) f [⟨Rect.whole S10000x8, tile (inp m d) (idx m d) (src m d) (cN L) (sN L) 160000⟩] i = pFin m d i := by
  rw [← set_pPieceK L] at hi
  obtain ⟨j, rfl⟩ : ∃ j, (pPieceK L).view.emb j = i := by
    rw [View.set, Finset.mem_map] at hi
    obtain ⟨j, -, h⟩ := hi
    exact ⟨j, h⟩
  have he : ((pPieceK L).view.slice (Rect.whole S10000x8)).emb j = (pPieceK L).view.emb j :=
    congrArg (pPieceK L).view.emb (Rect.emb_whole_apply S10000x8 j)
  have hw := View.write_emb_of_mem (v := (pPieceK L).view.slice (Rect.whole S10000x8)) (Val := Elt F) f
    (tile (inp m d) (idx m d) (src m d) (cN L) (sN L) 160000) (M := Finset.univ) (x := j) (Finset.mem_univ j)
  rw [he] at hw
  refine hw.trans ((cast_eq _ _).trans ?_)
  obtain ⟨⟨h0, h1⟩, h2⟩ := pPieceK_emb L j
  show half _ _ _ _ _ _ _ = half _ _ _ (((pPieceK L).view.emb j : SP.Idx) 0).val (((pPieceK L).view.emb j : SP.Idx) 1).val (((pPieceK L).view.emb j : SP.Idx) 2).val _
  rw [h0, h1, h2]

/-! ## Points-tos in the body's spelling -/

theorem pts_piece (f : Buf (Elt F) (pLoc d)) :
    ((pPieceK L).view.loc (V d (cV L) (jV L)) ↦[(pPieceK L).view.set]{fullShare} f : sProp 𝕄) = pLoc d ↦[piece (cN L) (sN L)]{fullShare} f := by
  rw [set_pPieceK]

end Views

end Cert.Proof.KernI

end
-- ==== Proof.IdealChunk.lean ====
/-
  One trip of the inner loop, and of the loop that zeroes the accumulator: an indexed load of two rows of each window and an
  indexed accumulate of them; an indexed store of two rows of zeros.
-/
module

public import proofs.«01_k».proof.Proof.IdealViews

@[expose] public section

noncomputable section

namespace Cert.Proof.KernI

open Cert.KernelIdeal Cert.KernelIdeal.Gen
open Cert.Proof.Model

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

-- the kernel's memrefs as the body table passes them: the arrays, the accumulator, the two windows
local notation "xV" => (Memref.whole Cert.KernelIdeal.main_arg0_scv : Memref Cert.KernelIdeal.sig Kind.scVector Space.hbm Cert.KernelIdeal.S10000x128 EltTy.f32)
local notation "iV" => (Memref.whole Cert.KernelIdeal.main_arg1_scv : Memref Cert.KernelIdeal.sig Kind.scVector Space.hbm Cert.KernelIdeal.S320000x128 EltTy.i32)
local notation "sV" => (Memref.whole Cert.KernelIdeal.main_arg2_scv : Memref Cert.KernelIdeal.sig Kind.scVector Space.hbm Cert.KernelIdeal.S320000x128 EltTy.f32)
local notation "pV" => (Memref.whole Cert.KernelIdeal.main_v0_scv : Memref Cert.KernelIdeal.sig Kind.scVector Space.hbm Cert.KernelIdeal.S2x10000x128 EltTy.f32)
local notation "aB" => (Memref.whole Cert.KernelIdeal.cc0_scratch0 : Memref Cert.KernelIdeal.sig Kind.scVector Space.vmem Cert.KernelIdeal.S10000x8 EltTy.f32)
local notation "iB" => (Memref.whole Cert.KernelIdeal.cc0_scratch1 : Memref Cert.KernelIdeal.sig Kind.scVector Space.vmem Cert.KernelIdeal.S1000x8 EltTy.i32)
local notation "sB" => (Memref.whole Cert.KernelIdeal.cc0_scratch2 : Memref Cert.KernelIdeal.sig Kind.scVector Space.vmem Cert.KernelIdeal.S1000x8 EltTy.f32)

variable (m : (ℓ : Loc nD τ sig) → Buf (Elt F) ℓ) (d : Dev nD) (L : grid0.Coords)

/-- The tile's thread. -/
abbrev VT (d : Dev nD) (L : grid0.Coords) : Thread nD τ := V d (cV L) (jV L)

/-- The accumulator and the two windows at given contents, in the body's spelling. -/
abbrev aPts (f : Vec F SA .f32) : sProp 𝕄 := (aB).view.loc (VT d L) ↦{fullShare} (f : Buf (Elt F) ((aB).view.loc (VT d L)))
abbrev iPts (f : Vec F SW .i32) : sProp 𝕄 := (iB).view.loc (VT d L) ↦{fullShare} (f : Buf (Elt F) ((iB).view.loc (VT d L)))
abbrev sPts (f : Vec F SW .f32) : sProp 𝕄 := (sB).view.loc (VT d L) ↦{fullShare} (f : Buf (Elt F) ((sB).view.loc (VT d L)))

omit [FloatOps F] in
/-- The accumulator as an indexed store addresses it. -/
theorem aPts_access (f : Vec F SA .f32) :
    (((aB).access (.whole S10000x8)).loc (VT d L) ↦[((aB).access (.whole S10000x8)).set]{fullShare} (f : Buf (Elt F) ((aB).view.loc (VT d L))) : sProp 𝕄)
      = aPts d L f := by
  rw [show ((aB).access (.whole S10000x8)).set = Finset.univ from Memref.set_access_whole (cc0_scratch0 : Ref sig .scVector)]

/-- The tile's accumulator after `n` of its edge rows. -/
abbrev tileAt (n : ℕ) : Vec F SA .f32 := tile (inp m d) (idx m d) (src m d) (cN L) (sN L) n
/-- The two windows from its edge row `e` on. -/
abbrev winIAt (e : ℕ) : Vec F SW .i32 := winI (idx m d) (cN L) (sN L) e
abbrev winVAt (e : ℕ) : Vec F SW .f32 := winV (src m d) (cN L) (sN L) e

/-- Every index loaded out of a window of an index array in range passes the third check. -/
theorem chk3_loaded (hpre : PreOK m) (e : ℕ) (li : Fin 2 → IVec S16 32) (h : ∀ a x, (li a x).toNat < S1000x8.size a) :
    k0_chk3 k0_pay1 (loadIdx (winIAt m d L e) li h) :=
  chk3_ok _ fun _ => hpre d _

/-- The accumulate of a trip's two rows, as a value. -/
theorem chunk_value (e : ℕ) (k : Fin k0_t3_loop.trips)
    (h : ∀ a x, ((![k0_pay5 k, k0_pay1] : Fin 2 → IVec S16 32) a x).toNat < S1000x8.size a)
    (h' : ∀ a x, ((![k0_pay5 k, k0_pay1] : Fin 2 → IVec S16 32) a x).toNat < S1000x8.size a)
    (h3 : ∀ a x, ((![loadIdx (s := S1000x8) (t := S16) (winIAt m d L e) ![k0_pay5 k, k0_pay1] h, k0_pay1] : Fin 2 → IVec S16 32) a x).toNat < S10000x8.size a) :
    storeIdx (s := S10000x8) (d := ![16]) (tileAt m d L (e + 2 * k.val)) ![loadIdx (s := S1000x8) (t := S16) (winIAt m d L e) ![k0_pay5 k, k0_pay1] h, k0_pay1]
        (loadIdx (s := S1000x8) (t := S16) (winVAt m d L e) ![k0_pay5 k, k0_pay1] h') (fun _ => 1#1) true h3
      = tileAt m d L (e + 2 * (k.val + 1)) :=
  tile_step (inp m d) (idx m d) (src m d) (cN L) (sN L) e k.val ![k0_pay5 k, k0_pay1] h cols_pay1 (fun l hl => pay5_val k l hl) h3

/-- One trip of the inner loop: two more edge rows in the accumulator. -/
theorem chunk_trip (hpre : PreOK m) (e : ℕ) (k : Fin k0_t3_loop.trips) (x : BitVec 32) :
    iprop(aPts d L (tileAt m d L (e + 2 * k.val)) ∗ iPts d L (winIAt m d L e) ∗ sPts d L (winVAt m d L e))
      ⊢ wp frame (wpE (defs₀ (F := F)) 𝒱₀ (VT d L) none) Set.univ
          (k0_t3_body L iV (Memref.isWhole_whole _) sV (Memref.isWhole_whole _) xV (Memref.isWhole_whole _) pV (Memref.isWhole_whole _)
            aB (Memref.isWhole_whole _) iB (Memref.isWhole_whole _) sB (Memref.isWhole_whole _) cc0_scoped0 cc0_scoped1 cc0_scoped2 cc0_scoped3 k0_pay1 k x)
          fun _ => iprop(aPts d L (tileAt m d L (e + 2 * (k.val + 1))) ∗ iPts d L (winIAt m d L e) ∗ sPts d L (winVAt m d L e)) := by
  iintro ⟨Ha, Hi, Hs⟩
  unfold k0_t3_body
  simp only [Prog.lift, Prog.bind_op, Prog.bind_ret, Prog.pure_eq_ret]
  rw [wp_assume_of _ _ _ _ (chk2_ok k)]
  iapply (SparseCore.wp_vectorLoadIdx 𝒱₀ (VT d L) none Set.univ (base := (iB : Memref sig .scVector .vmem S1000x8 .i32)) (S := Finset.univ) (Finset.subset_univ _)) $$ Hi
  iintro Hi
  rw [Memref.read_access_whole]
  rw [wp_assume_of _ _ _ _ (chk3_loaded m d L hpre e _ _)]
  iapply (SparseCore.wp_vectorLoadIdx 𝒱₀ (VT d L) none Set.univ (base := (sB : Memref sig .scVector .vmem S1000x8 .f32)) (S := Finset.univ) (Finset.subset_univ _)) $$ Hs
  iintro Hs
  rw [Memref.read_access_whole]
  ihave Ha' := (Entails.of_eq (aPts_access (F := F) d L _).symm) $$ Ha
  iapply (SparseCore.wp_vectorStoreIdx 𝒱₀ (VT d L) none Set.univ (base := (aB : Memref sig .scVector .vmem S10000x8 .f32))) $$ Ha'
  iintro Ha
  rw [Memref.write_access_whole_univ, Memref.read_access_whole, chunk_value]
  ihave Ha' := (Entails.of_eq (aPts_access (F := F) d L _)) $$ Ha
  rw [wp_ret]; imodintro
  isplitl [Ha']; · iexact Ha'
  isplitl [Hi]; · iexact Hi
  iexact Hs

/-- One trip of the zeroing loop: the rows below `2 (k + 1)` hold zero if those below `2 k` did. -/
theorem fill_trip (h2 : k0_cond2 L = 1#1) (k : Fin k0_t1_loop.trips) (x : BitVec 32) :
    iprop(∃ f, ⌜∀ j : SA.Idx, (j 0).val < 2 * k.val → f j = (Scalar.ofBits .f32 0x00000000#32 : F .f32)⌝ ∗ aPts d L f)
      ⊢ wp frame (wpE (defs₀ (F := F)) 𝒱₀ (VT d L) none) Set.univ
          (k0_t1_body L iV (Memref.isWhole_whole _) sV (Memref.isWhole_whole _) xV (Memref.isWhole_whole _) pV (Memref.isWhole_whole _)
            aB (Memref.isWhole_whole _) iB (Memref.isWhole_whole _) sB (Memref.isWhole_whole _) cc0_scoped0 cc0_scoped1 cc0_scoped2 cc0_scoped3 k0_pay1 h2 k x)
          fun _ => iprop(∃ f, ⌜∀ j : SA.Idx, (j 0).val < 2 * (k.val + 1) → f j = (Scalar.ofBits .f32 0x00000000#32 : F .f32)⌝ ∗ aPts d L f) := by
  iintro ⟨%f, %hf, Ha⟩
  unfold k0_t1_body
  simp only [Prog.lift, Prog.bind_op, Prog.bind_ret, Prog.pure_eq_ret]
  rw [wp_assume_of _ _ _ _ (chk1_ok L k)]
  ihave Ha' := (Entails.of_eq (aPts_access (F := F) d L _).symm) $$ Ha
  iapply (SparseCore.wp_vectorStoreIdx 𝒱₀ (VT d L) none Set.univ (base := (aB : Memref sig .scVector .vmem S10000x8 .f32))) $$ Ha'
  iintro Ha
  rw [Memref.write_access_whole_univ, Memref.read_access_whole]
  ihave Ha' := (Entails.of_eq (aPts_access (F := F) d L _)) $$ Ha
  rw [wp_ret]; imodintro
  iexists _; isplitr
  swap; · iexact Ha'
  ipureintro
  exact fun j hj => storeIdx_fill _ f (2 * k.val) _ _ _ cols_pay1 (fun l hl => pay4_val k l hl) pay3_val hf j (by omega)

end Cert.Proof.KernI

end
-- ==== Proof.IdealWindow.lean ====
/-
  One trip of the window loop: a thousand edge rows fetched into the tile's two windows by copies of its own, each waited for, and
  then added into the accumulator, two at a time.
-/
module

public import proofs.«01_k».proof.Proof.IdealChunk

@[expose] public section

noncomputable section

namespace Cert.Proof.KernI

open Cert.KernelIdeal Cert.KernelIdeal.Gen
open Cert.Proof.Model

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

-- the kernel's memrefs as the body table passes them: the arrays, the accumulator, the two windows
local notation "xV" => (Memref.whole Cert.KernelIdeal.main_arg0_scv : Memref Cert.KernelIdeal.sig Kind.scVector Space.hbm Cert.KernelIdeal.S10000x128 EltTy.f32)
local notation "iV" => (Memref.whole Cert.KernelIdeal.main_arg1_scv : Memref Cert.KernelIdeal.sig Kind.scVector Space.hbm Cert.KernelIdeal.S320000x128 EltTy.i32)
local notation "sV" => (Memref.whole Cert.KernelIdeal.main_arg2_scv : Memref Cert.KernelIdeal.sig Kind.scVector Space.hbm Cert.KernelIdeal.S320000x128 EltTy.f32)
local notation "pV" => (Memref.whole Cert.KernelIdeal.main_v0_scv : Memref Cert.KernelIdeal.sig Kind.scVector Space.hbm Cert.KernelIdeal.S2x10000x128 EltTy.f32)
local notation "aB" => (Memref.whole Cert.KernelIdeal.cc0_scratch0 : Memref Cert.KernelIdeal.sig Kind.scVector Space.vmem Cert.KernelIdeal.S10000x8 EltTy.f32)
local notation "iB" => (Memref.whole Cert.KernelIdeal.cc0_scratch1 : Memref Cert.KernelIdeal.sig Kind.scVector Space.vmem Cert.KernelIdeal.S1000x8 EltTy.i32)
local notation "sB" => (Memref.whole Cert.KernelIdeal.cc0_scratch2 : Memref Cert.KernelIdeal.sig Kind.scVector Space.vmem Cert.KernelIdeal.S1000x8 EltTy.f32)

variable (m : (ℓ : Loc nD τ sig) → Buf (Elt F) ℓ) (d : Dev nD) (L : grid0.Coords)

/-- The three operands as the tile addresses them, at its read share. -/
abbrev xRd : sProp 𝕄 := (xV).view.loc (VT d L) ↦{rd (cN L) (sN L)} m (xLoc d)
abbrev iRd : sProp 𝕄 := (iV).view.loc (VT d L) ↦{rd (cN L) (sN L)} m (iLoc d)
abbrev sRd : sProp 𝕄 := (sV).view.loc (VT d L) ↦{rd (cN L) (sN L)} m (sLoc d)

/-- The inner loop's invariant over the window from edge row `e` on. -/
def inv3 (e k : ℕ) (_ : BitVec 32) : sProp 𝕄 :=
  iprop(aPts d L (tileAt m d L (e + 2 * k)) ∗ iPts d L (winIAt m d L e) ∗ sPts d L (winVAt m d L e))

/-- The window loop's: after `w` windows the accumulator holds the first `1000 w` edge rows. -/
def inv2 (O : CellTallies nD τ sig (HIx 1)) (w : ℕ) (_ : BitVec 32) : sProp 𝕄 :=
  iprop(Transfers.MayWaits (VT d L) (default : HIx 1) O ∗ iRd m d L ∗ sRd m d L ∗ aPts d L (tileAt m d L (1000 * w))
    ∗ (∃ f, iPts d L f) ∗ (∃ f, sPts d L f) ∗ semVal (cell1 d L) 0 ∗ semVal (cell2 d L) 0 ∗ ∃ W', owes (VT d L) O W')

theorem window_trip (hpre : PreOK m) (O : CellTallies nD τ sig (HIx 1)) (w : Fin k0_t2_loop.trips) (x : BitVec 32) :
    inv2 m d L O w.val x
      ⊢ wp frame (wpE (defs₀ (F := F)) 𝒱₀ (VT d L) none) Set.univ
          (k0_t2_body L iV (Memref.isWhole_whole _) sV (Memref.isWhole_whole _) xV (Memref.isWhole_whole _) pV (Memref.isWhole_whole _)
            aB (Memref.isWhole_whole _) iB (Memref.isWhole_whole _) sB (Memref.isWhole_whole _) cc0_scoped0 cc0_scoped1 cc0_scoped2 cc0_scoped3 k0_pay1 w x)
          fun y => inv2 m d L O (w.val + 1) y := by
  unfold inv2
  iintro ⟨Hmw, Hi, Hs, Ha, ⟨%fi, Hib⟩, ⟨%fs, Hsb⟩, Hc1, Hc2, %W', HO⟩
  unfold k0_t2_body
  sl_exec (disch := exact View.amount_pos _ _ (show 0 < S1000x8.numel by decide))
  have ei : (iB).view.write (Elt F) fi (window_trip.sl.dma0 m d L w) Finset.univ = winIAt m d L (1000 * w.val) :=
    (View.write_whole_univ _ _ _).trans (read_iWin L w (idx m d))
  have es : (sB).view.write (Elt F) fs (window_trip.sl.dma0_1 m d L w) Finset.univ = winVAt m d L (1000 * w.val) :=
    (View.write_whole_univ _ _ _).trans (read_sWin L w (src m d))
  rw [ei, es]
  sl_for (inv3 m d L (1000 * w.val)) $$ [Ha Hib Hsb]
  case region =>
    intro k y
    unfold inv3
    exact chunk_trip m d L hpre (1000 * w.val) k y
  · unfold inv3
    isplitl [Ha]; · iexact Ha
    isplitl [Hib]; · iexact Hib
    iexact Hsb
  iintro %y HI
  rw [show Scf.trips k0_t3_loop.lb k0_t3_loop.ub k0_t3_loop.st = 500 from trips3]
  unfold inv3
  icases HI with ⟨Ha, Hib, Hsb⟩
  sl_exec
  sl_step
  isplitl [Hmw]; · iexact Hmw
  isplitl [Hi]; · iexact Hi
  isplitl [Hs]; · iexact Hs
  isplitl [Ha]
  · rw [show 1000 * (w.val + 1) = 1000 * w.val + 2 * 500 by omega]; iexact Ha
  isplitl [Hib]; · iexists _; iexact Hib
  isplitl [Hsb]; · iexists _; iexact Hsb
  isplitl [Hc1]; · iexact Hc1
  isplitl [Hc2]; · iexact Hc2
  iexists _; iexact HO

end Cert.Proof.KernI

end
-- ==== Proof.IdealTile.lean ====
/-
  The whole task of one tile: its accumulator started (the input's columns on SparseCore 0, zeros on the other), the 160 windows
  of its half added in, and the accumulator copied out to its piece of the partial sums.
-/
module

public import proofs.«01_k».proof.Proof.IdealWindow

@[expose] public section

noncomputable section

namespace Cert.Proof.KernI

open Cert.KernelIdeal Cert.KernelIdeal.Gen
open Cert.Proof.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

-- the kernel's memrefs as the body table passes them: the arrays, the accumulator, the two windows
local notation "xV" => (Memref.whole Cert.KernelIdeal.main_arg0_scv : Memref Cert.KernelIdeal.sig Kind.scVector Space.hbm Cert.KernelIdeal.S10000x128 EltTy.f32)
local notation "iV" => (Memref.whole Cert.KernelIdeal.main_arg1_scv : Memref Cert.KernelIdeal.sig Kind.scVector Space.hbm Cert.KernelIdeal.S320000x128 EltTy.i32)
local notation "sV" => (Memref.whole Cert.KernelIdeal.main_arg2_scv : Memref Cert.KernelIdeal.sig Kind.scVector Space.hbm Cert.KernelIdeal.S320000x128 EltTy.f32)
local notation "pV" => (Memref.whole Cert.KernelIdeal.main_v0_scv : Memref Cert.KernelIdeal.sig Kind.scVector Space.hbm Cert.KernelIdeal.S2x10000x128 EltTy.f32)
local notation "aB" => (Memref.whole Cert.KernelIdeal.cc0_scratch0 : Memref Cert.KernelIdeal.sig Kind.scVector Space.vmem Cert.KernelIdeal.S10000x8 EltTy.f32)
local notation "iB" => (Memref.whole Cert.KernelIdeal.cc0_scratch1 : Memref Cert.KernelIdeal.sig Kind.scVector Space.vmem Cert.KernelIdeal.S1000x8 EltTy.i32)
local notation "sB" => (Memref.whole Cert.KernelIdeal.cc0_scratch2 : Memref Cert.KernelIdeal.sig Kind.scVector Space.vmem Cert.KernelIdeal.S1000x8 EltTy.f32)

variable (m : (ℓ : Loc nD τ sig) → Buf (Elt F) ℓ) (d : Dev nD) (L : grid0.Coords)

/-- The whole task's program. -/
abbrev task (L : grid0.Coords) : Prog (TpuEff nD τ sig (Elt F) Λ₀ (VT d L).2) PUnit :=
  cc0__sc_scatter_partials L iV (Memref.isWhole_whole _) sV (Memref.isWhole_whole _) xV (Memref.isWhole_whole _) pV (Memref.isWhole_whole _)
    aB (Memref.isWhole_whole _) iB (Memref.isWhole_whole _) sB (Memref.isWhole_whole _) cc0_scoped0 cc0_scoped1 cc0_scoped2 cc0_scoped3

/-- What the task's program runs from, in the body's spelling. -/
def before (O : CellTallies nD τ sig (HIx 1)) (f : Vec F SA .f32) : sProp 𝕄 :=
  iprop(Transfers.MayWaits (VT d L) (default : HIx 1) O ∗ xRd m d L ∗ iRd m d L ∗ sRd m d L
    ∗ ((pPieceK L).view.loc (VT d L) ↦[(pPieceK L).view.set]{fullShare} m (pLoc d))
    ∗ aPts d L f ∗ (∃ f, iPts d L f) ∗ (∃ f, sPts d L f)
    ∗ semVal (cell0 d L) 0 ∗ semVal (cell1 d L) 0 ∗ semVal (cell2 d L) 0 ∗ semVal (cell3 d L) 0 ∗ ∃ W', owes (VT d L) O W')

/-- What it leaves. -/
def after (O : CellTallies nD τ sig (HIx 1)) : sProp 𝕄 :=
  iprop(xRd m d L ∗ iRd m d L ∗ sRd m d L ∗ (pLoc d ↦[piece (cN L) (sN L)]{fullShare} pFin m d)
    ∗ (∃ f, aPts d L f) ∗ (∃ f, iPts d L f) ∗ (∃ f, sPts d L f)
    ∗ semVal (cell0 d L) 0 ∗ semVal (cell1 d L) 0 ∗ semVal (cell2 d L) 0 ∗ semVal (cell3 d L) 0 ∗ ∃ W', owes (VT d L) O W')

/-- The program after the accumulator's start: the window loop, and the accumulator's copy out. -/
abbrev tail (L : grid0.Coords) : Prog (TpuEff nD τ sig (Elt F) Λ₀ (VT d L).2) PUnit := do
  let _ ← Scf.Loop.for k0_t2_loop k0_t2_ok 0#32 (k0_t2_body L iV (Memref.isWhole_whole _) sV (Memref.isWhole_whole _) xV (Memref.isWhole_whole _)
    pV (Memref.isWhole_whole _) aB (Memref.isWhole_whole _) iB (Memref.isWhole_whole _) sB (Memref.isWhole_whole _)
    cc0_scoped0 cc0_scoped1 cc0_scoped2 cc0_scoped3 k0_pay1)
  Prog.lift (.enqueueDma aB (.here (pPieceK L)) (.dma cc0_scoped3.sem) (Memref.isWhole_whole _).wordExact
    ((View.wordExact_bits rfl).reshape _ _) ⟨Or.inl rfl, trivial⟩)
  Prog.lift (.waitDma2 cc0_scoped3.sem aB (pPieceK L) (Memref.isWhole_whole _).wordExact ((View.wordExact_bits rfl).reshape _ _))
  pure ⟨⟩

/-- The tail, from a started accumulator. -/
theorem tail_run (hpre : PreOK m) (O : CellTallies nD τ sig (HIx 1)) :
    before m d L O (tileAt m d L 0) ⊢ wp frame (wpE (defs₀ (F := F)) 𝒱₀ (VT d L) none) Set.univ (tail d L) fun _ => after m d L O := by
  unfold before after tail
  iintro ⟨Hmw, Hx, Hi, Hs, Hp, Ha, Hib, Hsb, Hc0, Hc1, Hc2, Hc3, HO⟩
  sl_for (inv2 m d L O) $$ [Hmw Hi Hs Ha Hib Hsb Hc1 Hc2 HO]
  case region =>
    intro w y
    exact window_trip m d L hpre O w y
  · unfold inv2
    isplitl [Hmw]; · iexact Hmw
    isplitl [Hi]; · iexact Hi
    isplitl [Hs]; · iexact Hs
    isplitl [Ha]; · iexact Ha
    isplitl [Hib]; · iexact Hib
    isplitl [Hsb]; · iexact Hsb
    isplitl [Hc1]; · iexact Hc1
    isplitl [Hc2]; · iexact Hc2
    iexact HO
  iintro %y HI
  rw [show Scf.trips k0_t2_loop.lb k0_t2_loop.ub k0_t2_loop.st = 160 from trips2]
  unfold inv2
  rw [show 1000 * 160 = 160000 from rfl]
  icases HI with ⟨Hmw, Hi, Hs, Ha, Hib, Hsb, Hc1, Hc2, %W', HO⟩
  sl_exec (disch := exact View.amount_pos _ _ (show 0 < S10000x8.numel by decide))
  sl_step
  have ep : ((pPieceK L).view.loc (VT d L) ↦[(pPieceK L).view.set]{fullShare}
        (pPieceK L).view.writes (Elt F) (m (pLoc d)) [⟨Rect.whole S10000x8, tail_run.sl.dma0 m d L⟩] : sProp 𝕄)
      = pLoc d ↦[piece (cN L) (sN L)]{fullShare} pFin m d := by
    have ed : tail_run.sl.dma0 m d L = tileAt m d L 160000 := View.read_whole _ _
    rw [pts_piece, ed]
    refine pointsTo_congr fun i hi => ?_
    exact write_pPieceK d L m (m (pLoc d)) i hi
  isplitl [Hx]; · iexact Hx
  isplitl [Hi]; · iexact Hi
  isplitl [Hs]; · iexact Hs
  isplitl [Hp]; · iapply (Entails.of_eq ep); iexact Hp
  isplitl [Ha]; · iexists _; iexact Ha
  isplitl [Hib]; · iexact Hib
  isplitl [Hsb]; · iexact Hsb
  isplitl [Hc0]; · iexact Hc0
  isplitl [Hc1]; · iexact Hc1
  isplitl [Hc2]; · iexact Hc2
  isplitl [Hc3]; · iexact Hc3
  iexists _; iexact HO

theorem task_run0 (hpre : PreOK m) (O : CellTallies nD τ sig (HIx 1)) (f : Vec F SA .f32) (hc : cN L = 0) :
    before m d L O f ⊢ wp frame (wpE (defs₀ (F := F)) 𝒱₀ (VT d L) none) Set.univ (task d L) fun _ => after m d L O := by
  have k0_h1 : k0_cond1 L = 1#1 := (cond1_iff L).mpr hc
  have k0_h2 : ¬ k0_cond2 L = 1#1 := fun h => (cond2_iff L).mp h hc
  unfold before after task
  rw [cc0__sc_scatter_partials_eq_skeleton]; unfold cc0__sc_scatter_partials_skel
  iintro ⟨Hmw, Hx, Hi, Hs, Hp, Ha, Hib, Hsb, Hc0, Hc1, Hc2, Hc3, %W', HO⟩
  sl_exec (disch := exact View.amount_pos _ _ (show 0 < S10000x8.numel by decide))
  have ea : (aB).view.write (Elt F) f (task_run0.sl.dma0 m d L k0_h1) Finset.univ = tileAt m d L 0 :=
    (View.write_whole_univ _ _ _).trans (read_xCol L k0_h1 (inp m d) (idx m d) (src m d))
  rw [ea]
  iapply (tail_run m d L hpre O)
  unfold before
  isplitl [Hmw]; · iexact Hmw
  isplitl [Hx]; · iexact Hx
  isplitl [Hi]; · iexact Hi
  isplitl [Hs]; · iexact Hs
  isplitl [Hp]; · iexact Hp
  isplitl [Ha]; · iexact Ha
  isplitl [Hib]; · iexact Hib
  isplitl [Hsb]; · iexact Hsb
  isplitl [Hc0]; · iexact Hc0
  isplitl [Hc1]; · iexact Hc1
  isplitl [Hc2]; · iexact Hc2
  isplitl [Hc3]; · iexact Hc3
  iexists _; iexact HO

/-- The zeroing loop's invariant. -/
def inv1 (k : ℕ) (_ : BitVec 32) : sProp 𝕄 :=
  iprop(∃ f, ⌜∀ j : SA.Idx, (j 0).val < 2 * k → f j = (Scalar.ofBits .f32 0x00000000#32 : F .f32)⌝ ∗ aPts d L f)

theorem task_run1 (hpre : PreOK m) (O : CellTallies nD τ sig (HIx 1)) (f : Vec F SA .f32) (hc : ¬ cN L = 0) :
    before m d L O f ⊢ wp frame (wpE (defs₀ (F := F)) 𝒱₀ (VT d L) none) Set.univ (task d L) fun _ => after m d L O := by
  have k0_h1 : ¬ k0_cond1 L = 1#1 := fun h => hc ((cond1_iff L).mp h)
  have k0_h2 : k0_cond2 L = 1#1 := (cond2_iff L).mpr hc
  unfold before after task
  rw [cc0__sc_scatter_partials_eq_skeleton]; unfold cc0__sc_scatter_partials_skel
  iintro ⟨Hmw, Hx, Hi, Hs, Hp, Ha, Hib, Hsb, Hc0, Hc1, Hc2, Hc3, %W', HO⟩
  sl_exec
  sl_for (inv1 d L) $$ [Ha]
  case region =>
    intro k y
    exact fill_trip d L k0_h2 k y
  · unfold inv1
    iexists _; isplitr
    swap; · iexact Ha
    ipureintro; intro j hj; omega
  iintro %y HI
  rw [show Scf.trips k0_t1_loop.lb k0_t1_loop.ub k0_t1_loop.st = 5000 from trips1]
  unfold inv1
  icases HI with ⟨%g, %hg, Ha⟩
  have eg : g = tileAt m d L 0 := by
    funext j
    have hj : (j 0).val < 10000 := (j 0).isLt
    show g j = startOf _ _ _ _
    rw [startOf, if_neg hc]
    exact hg j (by omega)
  rw [eg]
  sl_exec
  iapply (tail_run m d L hpre O)
  unfold before
  isplitl [Hmw]; · iexact Hmw
  isplitl [Hx]; · iexact Hx
  isplitl [Hi]; · iexact Hi
  isplitl [Hs]; · iexact Hs
  isplitl [Hp]; · iexact Hp
  isplitl [Ha]; · iexact Ha
  isplitl [Hib]; · iexact Hib
  isplitl [Hsb]; · iexact Hsb
  isplitl [Hc0]; · iexact Hc0
  isplitl [Hc1]; · iexact Hc1
  isplitl [Hc2]; · iexact Hc2
  isplitl [Hc3]; · iexact Hc3
  iexists _; iexact HO

/-- The task, on either SparseCore. -/
theorem task_run (hpre : PreOK m) (O : CellTallies nD τ sig (HIx 1)) (f : Vec F SA .f32) :
    before m d L O f ⊢ wp frame (wpE (defs₀ (F := F)) 𝒱₀ (VT d L) none) Set.univ (task d L) fun _ => after m d L O := by
  by_cases hc : cN L = 0
  · exact task_run0 m d L hpre O f hc
  · exact task_run1 m d L hpre O f hc

/-- The task as the call's protocol hands it its share of the arrays, its own buffers and its own semaphores at zero. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (rdPts m d (rd (cN L) (sN L)) ∗ pPts d (piece (cN L) (sN L)) (m (pLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (task d L)
          fun _ => iprop((rdPts m d (rd (cN L) (sN L)) ∗ pPts d (piece (cN L) (sN L)) (pFin m d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨⟨Hx, Hi, Hs⟩, Hp⟩, ⟨⟨%fa, Ha⟩, ⟨%fi, Hib⟩, ⟨%fs, Hsb⟩, Hbufs⟩, ⟨Hc0, Hc1, Hc2, Hc3, Hsems⟩, HO⟩
  -- the waits' evidence: everything the tile owes lies above its DMA cells
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (Entails.of_eq (pts_piece (F := F) d L _).symm) $$ Hp
  iapply (wp_wand _ _ _ (Q := fun _ => after m d L O)) $$ [Hmw Hx Hi Hs Hp' Ha Hib Hsb Hc0 Hc1 Hc2 Hc3 HO]
  · iapply (task_run m d L hpre O fa)
    unfold before
    isplitl [Hmw]; · iexact Hmw
    isplitl [Hx]; · iexact Hx
    isplitl [Hi]; · iexact Hi
    isplitl [Hs]; · iexact Hs
    isplitl [Hp']; · iexact Hp'
    isplitl [Ha]; · iexact Ha
    isplitl [Hib]; · iexists _; iexact Hib
    isplitl [Hsb]; · iexists _; iexact Hsb
    isplitl [Hc0]; · iexact Hc0
    isplitl [Hc1]; · iexact Hc1
    isplitl [Hc2]; · iexact Hc2
    isplitl [Hc3]; · iexact Hc3
    iexists _; iexact HO
  iintro %_ H
  unfold after
  icases H with ⟨Hx, Hi, Hs, Hp, ⟨%ga, Ha⟩, ⟨%gi, Hib⟩, ⟨%gs, Hsb⟩, Hc0, Hc1, Hc2, Hc3, %W', HO⟩
  isplitl [Hx Hi Hs Hp]
  · isplitl [Hx Hi Hs]
    · isplitl [Hx]; · iexact Hx
      isplitl [Hi]; · iexact Hi
      iexact Hs
    iexact Hp
  isplitl [Ha Hib Hsb Hbufs]
  · isplitl [Ha]; · iexists _; iexact Ha
    isplitl [Hib]; · iexists _; iexact Hib
    isplitl [Hsb]; · iexists _; iexact Hsb
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists W'; isplitr
  swap; · iexact HO
  -- every recorded wait of the one call is at index `none` or at the call's
  ipureintro; intro p _
  rcases p.2 with _ | q
  · exact .inr (.inl rfl)
  · exact .inr (.inr (congrArg some (Subsingleton.elim q 0)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_scatter_partials (coordsV c s)
          iV (Memref.isWhole_whole _) sV (Memref.isWhole_whole _) xV (Memref.isWhole_whole _) pV (Memref.isWhole_whole _)
          aB (Memref.isWhole_whole _) iB (Memref.isWhole_whole _) sB (Memref.isWhole_whole _) cc0_scoped0 cc0_scoped1 cc0_scoped2 cc0_scoped3) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

end Cert.Proof.KernI

end
-- ==== Proof.IdealCombine.lean ====
/-
  The TensorCore's region: ten points, each adding the two halves of a block of a thousand rows of the partial sums. What the
  body computes at one point, and what the result's array holds once every point has written its block back.
-/
module

public import proofs.«01_k».proof.Proof.IdealTile
public import Idealize.ShloMosaic.Lib.Pipeline.Regions
public import Idealize.ShloMosaic.Lib.Pipeline.ValueKit
public import Idealize.ShloMosaic.Lib.ValueIdx
public import Idealize.ShloMosaic.Lib.VecWindow

@[expose] public section

set_option maxRecDepth 16384

noncomputable section

namespace Cert.Proof.KernI

open Cert.KernelIdeal Cert.KernelIdeal.Gen
open Cert.Proof.Model

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 1) (Elt F) ℕ UU ℕ

/-! ## One point -/

/-- The sum of the two halves of a block of partial sums. -/
def comb (X : Vec F S2x1000x128 .f32) : Vec F S1000x128 .f32 :=
  fun y => FloatOps.addf (X (ix3 (0 : Fin 2) (y 0) (y 1))) (X (ix3 (1 : Fin 2) (y 0) (y 1)))

/-- The body's payload on its two loads is that sum. -/
theorem comb_pay (X : Vec F S2x1000x128 .f32) :
    k1_pay1 (View.ld X (Rect.unit (s := S2x1000x128) ![0, 0, 0] S1x1000x128.size inb_S2x1000x128_S1x1000x128_0_0_0))
      (View.ld X (Rect.unit (s := S2x1000x128) ![1, 0, 0] S1x1000x128.size inb_S2x1000x128_S1x1000x128_1_0_0)) = comb X := by
  funext y
  unfold k1_pay1 comb
  pointwise

/-- The body at a point: the staged block kept, the result's staging buffer left at the sum of its halves. -/
theorem combine_run (c : Dev nD) (i : grid1.Coords) (M0 : Memref sig .tc .vmem S2x1000x128 .f32) (h0 : M0.IsWhole) (M1 : Memref sig .tc .vmem S1000x128 .f32) (h1 : M1.IsWhole)
    (X : Vec F S2x1000x128 .f32) (Y : Vec F S1000x128 .f32) (Q : PUnit → sProp 𝕄) :
    iprop(owns c M0 fullShare X ∗ owns c M1 fullShare Y ∗ (iprop(owns c M0 fullShare X ∗ owns c M1 fullShare (comb X)) -∗ Q ⟨⟩))
      ⊢ wp frame (wpE (defs₀ (F := F)) 𝒱₀ c none) Set.univ (cc1__combine_body i M0 h0 M1 h1) Q := by
  rw [cc1__combine_body_eq_skeleton]; unfold cc1__combine_body_skel
  unfold owns
  iintro ⟨⟨%f0, %e0, H0⟩, ⟨%f1, %e1, H1⟩, Hk⟩
  sl_exec
  sl_step
  iapply Hk
  isplitl [H0]
  · iexists f0; isplitr
    swap; · iexact H0
    ipureintro; exact e0
  iexists _; isplitr
  swap; · iexact H1
  ipureintro
  rw [View.read_writes_full, View.readAt_eq_ld, View.readAt_eq_ld, e0]
  exact comb_pay X

/-! ## The region's proof data -/

variable (m : (ℓ : Loc nD τ sig) → Buf (Elt F) ℓ)

/-- The block of the partial sums that point `t` fetches. -/
def blkIn (c : Dev nD) (t : Fin cfg1.N) : Vec F S2x1000x128 .f32 := (win1_0.blk t).view.read (Elt F) (pFin m c)

/-- The arrays as the call left them, the fetched blocks kept, each result block the sum of its halves; nothing owed, and the waits
    recorded so far at or below level 8. -/
def dats (_ : Fin 1) (c : Dev nD) : Dat τ (Elt F) (HIx 1) ℕ UU ℕ cfg1 c where
  A w := match w with
    | ⟨0, _⟩ => pFin m c
    | ⟨1, _⟩ => m (oLoc c)
  after w t := match w with
    | ⟨0, _⟩ => blkIn m c t
    | ⟨1, _⟩ => comb (blkIn m c t)
  Φ _ := BI.emp
  q _ := fullShare
  owed _ := 0
  recorded _ := {p | (K (F := F)).lev (T c, p.1) p.2 ≤ 8}

theorem before_in (c : Dev nD) (t : Fin cfg1.N) (d : (cfg1.win 0).block.Idx → Elt F (cfg1.win 0).elt) : (dats m 0 c).before 0 t d = blkIn m c t := by
  unfold Dat.before; rw [if_pos (fetch1_0 t)]; rfl

theorem body_obligation (c : Dev nD) : BodyObligation (dats m 0 c) (defs₀ (F := F)) 𝒱₀ none Set.univ := fun t => by
  rw [bigSep_W1, bigSep_W1]
  rw [show (dats m 0 c).Φ t.castSucc = BI.emp from rfl, show (dats m 0 c).Φ t.succ = BI.emp from rfl,
    show (dats m 0 c).owesAt none t.succ = (dats m 0 c).owesAt none t.castSucc from rfl]
  iintro ⟨-, HO, ⟨%d0, H0⟩, ⟨%d1, H1⟩⟩
  rw [before_in]
  iapply (combine_run c (grid1.coords t) (st1_0 t) (hstage1_0 ((cfg1.slots t 0).cast nbuf1_0)) (st1_1 t) (hstage1_1 ((cfg1.slots t 1).cast nbuf1_1)) (blkIn m c t) _ _)
  isplitl [H0]; · iexact H0
  isplitl [H1]; · iexact H1
  iintro ⟨H0, H1⟩
  isplitr; · iempintro
  isplitl [HO]; · iexact HO
  isplitl [H0]; · iexact H0
  iexact H1

theorem pFin_apply (c : Dev nD) (x : SP.Idx) : pFin m c x = half (inp m c) (idx m c) (src m c) (x 0) (x 1) (x 2) 160000 := rfl
theorem oFin_apply (c : Dev nD) (x : SN.Idx) : oFin m c x
    = FloatOps.addf (half (inp m c) (idx m c) (src m c) 0 (x 0) (x 1) 160000) (half (inp m c) (idx m c) (src m c) 1 (x 0) (x 1) 160000) := rfl

/-- The two windows' block indices at a point: the point's block of rows, whole in every other axis. -/
theorem index_in : ∀ t : Fin cfg1.N, win1_0.index t = ![0, t.val, 0] := by decide +kernel
theorem index_out : ∀ t : Fin cfg1.N, win1_1.index t = ![t.val, 0] := by decide +kernel

/-- The place in the partial sums of an element of a fetched block: the block of rows that the result's block of the same point is. -/
theorem blkIn_at (c : Dev nD) (t : Fin cfg1.N) (h : Fin 2) (y : S1000x128.Idx) :
    blkIn m c t (ix3 h (y 0) (y 1))
      = half (inp m c) (idx m c) (src m c) h.val ((win1_1.blk t).view.emb y 0).val ((win1_1.blk t).view.emb y 1).val 160000 := by
  show pFin m c ((win1_0.blk t).view.emb (ix3 h (y 0) (y 1))) = _
  rw [pFin_apply]
  have e0 : ((win1_0.blk t).view.emb (ix3 h (y 0) (y 1)) 0).val = h.val := by
    blk_simp
    rw [index_in]; simp
  have e1 : ((win1_0.blk t).view.emb (ix3 h (y 0) (y 1)) 1).val = ((win1_1.blk t).view.emb y 0).val := by
    blk_simp
    rw [index_in, index_out]; simp
  have e2 : ((win1_0.blk t).view.emb (ix3 h (y 0) (y 1)) 2).val = ((win1_1.blk t).view.emb y 1).val := by
    blk_simp
    rw [index_in, index_out]; simp
  rw [e0, e1, e2]

/-- The result's array after the region: the whole result. -/
theorem out_final (c : Dev nD) : (dats m 0 c).arrAt 1 cfg1.N = oFin m c := by
  refine (dats m 0 c).arrAt_eq_of_covers 1 _ (by decide +kernel) fun t hf y => ?_
  blk_simp
  rw [oFin_apply]
  exact congrArg₂ FloatOps.addf (blkIn_at m c t 0 y) (blkIn_at m c t 1 y)

end Cert.Proof.KernI

end
-- ==== Proof.IdealRegion.lean ====
/-
  The TensorCore's region as one statement: entered with the partial sums final and the result's array as launched, nothing owed
  and every recorded wait at or below level 8, it leaves the result's array at the whole result, and owes and records no more.
-/
module

public import proofs.«01_k».proof.Proof.IdealCombine

@[expose] public section

set_option maxRecDepth 16384

noncomputable section

namespace Cert.Proof.KernI

open Cert.KernelIdeal Cert.KernelIdeal.Gen
open Cert.Proof.Model

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-- The region's tables: there are none. -/
abbrev adm : (p : Fin 1) → (pcfgs (F := F) p).Adm := fun p => (cfgs p).toPCfg_adm

/-- Nothing owed, the recorded waits at or below level 8. -/
abbrev quiet (c : Dev nD) : sProp 𝕄 :=
  iprop(∃ W, ⌜(K (F := F)).WBelow (T c) W 8⌝ ∗ owes (T c) (0 : CellTallies nD τ sig (HIx 1)) W)

/-- What the region is entered with, and what it leaves. -/
abbrev regPre (c : Dev nD) : sProp 𝕄 := iprop((pLoc c ↦{fullShare} pFin m c) ∗ (oLoc c ↦{fullShare} m (oLoc c)) ∗ quiet (F := F) c)
abbrev regPost (c : Dev nD) : sProp 𝕄 := iprop((pLoc c ↦{fullShare} pFin m c) ∗ (oLoc c ↦{fullShare} oFin m c) ∗ quiet (F := F) c)

/-- The region's two arrays, held in full. -/
theorem arrays_two (c : Dev nD) (f : (w : Fin cfg1.W) → Buf (Elt F) ((cfg1.win w).arr.view.loc (c.tc : Thread nD τ))) :
    ((dats m 0 c).arrays f : sProp 𝕄) = iprop((pLoc c ↦{fullShare} f 0) ∗ (oLoc c ↦{fullShare} f 1)) :=
  (Pipeline.arrays_eq (Pipeline.pin (pcfgs (F := F)) adm) (dats m) 0 c launch1.arr_whole ((dats m 0 c).share_full fun _ => rfl) f).trans (bigSep_W1 _)

set_option backward.isDefEq.respectTransparency.types false in
/-- The region, from `regPre` to `regPost`. -/
def reg : Pipeline.RegionSeg (pcfgs (F := F)) adm (dats m) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m c).loose
  hwaits := Pipeline.hwaits_of_owed_zero _ _ _ _ (K (F := F)).L (K (F := F)).lev 0 fun _ _ => rfl
  pre := regPre m
  post := regPost m
  X _ := BI.emp
  Y _ := BI.emp
  Z _ := BI.emp
  hentry c := by
    rw [Pipeline.ownSems0_none]
    iintro ⟨⟨Hp, Ho, ⟨%W, %hW, HO⟩⟩, -, -⟩
    imodintro
    isplitl [Hp Ho]
    · iapply (Entails.of_eq (arrays_two m c ((dats m 0 c).arrAt · 0)).symm)
      isplitl [Hp]; · iexact Hp
      iexact Ho
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats m 0 c).Φ 0 = BI.emp from rfl]
    iintro -; iempintro
  hout c := by
    rw [Pipeline.ownSems0_none]
    iintro -
    isplitr; · iempintro
    isplitr; · iempintro
    iapply (Entails.of_eq (scopedRest1_eq c).symm); iempintro
  hexit c := by
    iintro ⟨Ha, ⟨%W, %hW, HO⟩, -, -⟩
    ihave Ha' := (Entails.of_eq (arrays_two m c ((dats m 0 c).arrAt · cfg1.N))) $$ Ha
    icases Ha' with ⟨Hp, Ho⟩
    rw [out_final, (dats m 0 c).arrAt_in 0 rfl _]
    imodintro
    isplitl [Hp]; · iexact Hp
    isplitl [Ho]; · iexact Ho
    iexists W; isplitr
    · ipureintro
      intro p hp
      rcases hW hp with h | ⟨w, s, rfl⟩
      · exact h
      · exact Nat.zero_le _
    iexact HO

end Cert.Proof.KernI

end
-- ==== Proof.IdealSplit.lean ====
/-
  How the arrays are dealt out: the operands' shares among the SparseCores and among one core's tiles, the partial sums' elements
  by halves and by pieces; and each dealing undone.
-/
module

public import proofs.«01_k».proof.Proof.IdealRegion

@[expose] public section

set_option maxRecDepth 16384

noncomputable section

namespace Cert.Proof.KernI

open Cert.KernelIdeal Cert.KernelIdeal.Gen
open Cert.Proof.Model

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The operands' shares -/

/-- The operands at share `q` are the operands at what `n` read tokens leave of it, and at each token. -/
theorem rd_split (d : Dev nD) (q : PosShare TreeShare) (n : ℕ) :
    rdPts m d q ⊢ iprop(rdPts m d (Transfers.shareDrop q n) ∗ bigSep Finset.univ fun i : Fin n => rdPts m d (Transfers.shareTokN q i.val)) := by
  rw [bigSep_sep', bigSep_sep']
  iintro ⟨Hx, Hi, Hs⟩
  ihave Hx := (Transfers.pointsTo_toks_split q n) $$ Hx
  ihave Hi := (Transfers.pointsTo_toks_split q n) $$ Hi
  ihave Hs := (Transfers.pointsTo_toks_split q n) $$ Hs
  icases Hx with ⟨Hx, Hx'⟩
  icases Hi with ⟨Hi, Hi'⟩
  icases Hs with ⟨Hs, Hs'⟩
  isplitl [Hx Hi Hs]
  · isplitl [Hx]; · iexact Hx
    isplitl [Hi]; · iexact Hi
    iexact Hs
  isplitl [Hx']; · iexact Hx'
  isplitl [Hi']; · iexact Hi'
  iexact Hs'

/-- The same, joined. -/
theorem rd_join (d : Dev nD) (q : PosShare TreeShare) (n : ℕ) :
    iprop(rdPts m d (Transfers.shareDrop q n) ∗ bigSep Finset.univ fun i : Fin n => rdPts m d (Transfers.shareTokN q i.val)) ⊢ rdPts m d q := by
  rw [bigSep_sep', bigSep_sep']
  iintro ⟨⟨Hx, Hi, Hs⟩, Hx', Hi', Hs'⟩
  isplitl [Hx Hx']
  · iapply (Transfers.pointsTo_toks_join q n); isplitl [Hx]; · iexact Hx
    iexact Hx'
  isplitl [Hi Hi']
  · iapply (Transfers.pointsTo_toks_join q n); isplitl [Hi]; · iexact Hi
    iexact Hi'
  iapply (Transfers.pointsTo_toks_join q n); isplitl [Hs]; · iexact Hs
  iexact Hs'

/-! ## The partial sums' elements -/

/-- The two halves are the whole array. -/
theorem halves (d : Dev nD) (f : Buf (Elt F) (pLoc d)) :
    (pLoc d ↦{fullShare} f : sProp 𝕄) = bigSep Finset.univ fun c : Fin 2 => pPts d (halfSet c.val) f := by
  have hu : (Finset.univ : Finset SP.Idx) = (Finset.univ : Finset (Fin 2)).biUnion fun c => halfSet c.val :=
    Finset.ext fun x => ⟨fun _ => Finset.mem_biUnion.mpr ⟨x 0, Finset.mem_univ _, Finset.mem_filter.mpr ⟨Finset.mem_univ _, rfl⟩⟩, fun _ => Finset.mem_univ _⟩
  rw [show (pLoc d ↦{fullShare} f : sProp 𝕄) = pPts d ((Finset.univ : Finset (Fin 2)).biUnion fun c => halfSet c.val) f from
    congrArg (fun s => (pPts d s f : sProp 𝕄)) hu]
  refine pointsTo_biUnion _ _ fun c _ c' _ hcc => Finset.disjoint_left.mpr fun x hx hx' => hcc (Fin.ext ?_)
  exact (Finset.mem_filter.mp hx).2.symm.trans (Finset.mem_filter.mp hx').2

/-- A half is its sixteen pieces. -/
theorem pieces (d : Dev nD) (c : ℕ) (f : Buf (Elt F) (pLoc d)) :
    (pPts d (halfSet c) f : sProp 𝕄) = bigSep Finset.univ fun i : Fin 16 => pPts d (piece c i.val) f := by
  have hu : halfSet c = (Finset.univ : Finset (Fin 16)).biUnion fun i => piece c i.val := by
    ext x
    constructor
    · intro hx
      have h2 : (x 2).val < 128 := (x 2).isLt
      exact Finset.mem_biUnion.mpr ⟨⟨(x 2).val / 8, by omega⟩, Finset.mem_univ _, Finset.mem_filter.mpr ⟨Finset.mem_univ _, (Finset.mem_filter.mp hx).2, rfl⟩⟩
    · intro hx
      obtain ⟨i, _, hi⟩ := Finset.mem_biUnion.mp hx
      exact Finset.mem_filter.mpr ⟨Finset.mem_univ _, (Finset.mem_filter.mp hi).2.1⟩
  rw [hu]
  refine pointsTo_biUnion _ _ fun i _ i' _ hii => Finset.disjoint_left.mpr fun x hx hx' => hii (Fin.ext ?_)
  exact (Finset.mem_filter.mp hx).2.2.symm.trans (Finset.mem_filter.mp hx').2.2

/-! ## A call's operands among one core's tiles, and back -/

/-- What a core is handed becomes what its tiles are handed, and what they bring back becomes what it brings back. -/
theorem vecSplit : (K (F := F)).VecSplit' (P m) 0 := by
  intro d c
  show iprop(rdPts m d (rdC c.val) ∗ pPts d (halfSet c.val) (m (pLoc d))) ⊢ |={Set.univ}=> iprop(
      (bigSep Finset.univ fun i : Fin 16 => iprop(rdPts m d (rd c.val i.val) ∗ pPts d (piece c.val i.val) (m (pLoc d))))
      ∗ ((bigSep Finset.univ fun i : Fin 16 => iprop(rdPts m d (rd c.val i.val) ∗ pPts d (piece c.val i.val) (pFin m d)))
          -∗ iprop(rdPts m d (rdC c.val) ∗ pPts d (halfSet c.val) (pFin m d))))
  rw [bigSep_sep' Finset.univ (fun i : Fin 16 => rdPts m d (rd c.val i.val)), bigSep_sep' Finset.univ (fun i : Fin 16 => rdPts m d (rd c.val i.val)),
    pieces, pieces]
  iintro ⟨Hr, Hp⟩
  ihave Hr := (rd_split m d (rdC c.val) 16) $$ Hr
  icases Hr with ⟨Hd, Hr⟩
  imodintro
  isplitl [Hr Hp]
  · isplitl [Hr]; · iexact Hr
    iexact Hp
  iintro ⟨Hr, Hp⟩
  isplitl [Hd Hr]
  · iapply (rd_join m d (rdC c.val) 16); isplitl [Hd]; · iexact Hd
    iexact Hr
  iexact Hp

/-! ## The device's arrays among the two cores, and back -/

theorem starts (d : Dev nD) : (bigSep Finset.univ fun c : Fin ((K (F := F)).nCore 0) => (P m).st 0 d c)
    = iprop((bigSep Finset.univ fun c : Fin 2 => rdPts m d (rdC c.val)) ∗ pLoc d ↦{fullShare} m (pLoc d)) := by
  rw [halves, ← bigSep_sep']; rfl

theorem ends (d : Dev nD) : (bigSep Finset.univ fun c : Fin ((K (F := F)).nCore 0) => (P m).dn 0 d c)
    = iprop((bigSep Finset.univ fun c : Fin 2 => rdPts m d (rdC c.val)) ∗ pLoc d ↦{fullShare} pFin m d) := by
  rw [halves, ← bigSep_sep']; rfl

end Cert.Proof.KernI

end
-- ==== Proof.IdealLaunch.lean ====
/-
  The whole program's run: the ghost state dealt at launch, `@main` on the TensorCore (the call, then the region), and what the
  memory holds when every thread has returned.
-/
module

public import proofs.«01_k».proof.Proof.IdealSplit
public import proofs.«01_k».proof.Proof.Gen.Pre_idx_in_rows

@[expose] public section

set_option maxRecDepth 16384

noncomputable section

namespace Cert.Proof.KernI

open Cert.KernelIdeal Cert.KernelIdeal.Gen
open Cert.Proof.Model

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds (initOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at launch -/

/-- What device `d`'s TensorCore needs for its region: its staging cells' states and tokens. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- The handshakes' rounds, the region's rounds, no counter. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

omit [FloatOps F] in
/-- The second component's first half, owned through the region's embedding. -/
theorem own_region (a : UP) (b : Counters) : (BI.own (embR (a, b)) : sProp 𝕄) ⊢ BI.own (EP (F := F) a) := by
  unfold EP
  iintro H
  ihave H := (own_pair_emb embR a b) $$ H
  icases H with ⟨H, -⟩
  iexact H

omit [FloatOps F] in
theorem one_each (Φ : Dev nD → Fin 1 → sProp 𝕄) :
    (bigSep Finset.univ fun d : Dev nD => bigSep Finset.univ fun p : Fin 1 => Φ d p) = bigSep Finset.univ fun d : Dev nD => Φ d 0 :=
  bigSep_congr fun _ _ => bigSep_univ_of_subsingleton (0 : Fin 1)

/-- That state is the handshakes' cells and, per device, the region's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (own_region _ _) $$ HR
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]
    · iapply (Entails.of_eq (one_each (F := F) fun d p => Pipeline.cellsGhost (Pipeline.pin (pcfgs (F := F)) adm) (EP (F := F)) p d)); iexact Hg
    · iapply (Entails.of_eq (one_each (F := F) fun d p => Pipeline.toksInit (Pipeline.pin (pcfgs (F := F)) adm) (EP (F := F)) p d)); iexact Ht
  · rw [show (bigSep Finset.univ fun thr : Thread nD τ => bigSep Finset.univ fun q : Fin 1 => (P (F := F) m).x q thr) = bigSep Finset.univ fun _ => iprop(emp) from
      bigSep_congr fun _ _ => bigSep_univ_of_subsingleton (0 : Fin 1), show (bigSep Finset.univ fun _ : Thread nD τ => (iprop(emp) : sProp 𝕄)) = iprop(emp) from bigSep_emp_const _]
    iempintro

/-! ## `@main` on the TensorCore -/

omit [FloatOps F] in
/-- The TensorCore's five arrays. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (iLoc d ↦{fullShare} W main_arg1) ∗ (sLoc d ↦{fullShare} W main_arg2)
          ∗ (pLoc d ↦{fullShare} W main_v0) ∗ oLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide), SparseCore.bigSep_insert' (by decide),
    bigSep_singleton]

/-- What `@main` ends holding: the operands as launched, the result whole. -/
abbrev FIN (d : Dev nD) : sProp 𝕄 := iprop(rdPts m d fullShare ∗ oLoc d ↦{fullShare} oFin m d)

/-- The region as the pipeline's own table runs it. -/
theorem region_run₀ [∀ e, Nonempty (Elt F e)] (d : Dev nD) (Q : PUnit → sProp 𝕄) :
    iprop((iprop(boundary (T d) ∗ regPost m d) -∗ wp frame (wpE (D (F := F)) 𝒱 (T d) none) Set.univ (.ret ⟨⟩) Q)
        ∗ boundary (T d) ∗ regPre m d ∗ levAts (K (F := F)).L (K (F := F)).lev ∗ G (F := F) d)
      ⊢ wp frame (wpE (D (F := F)) 𝒱 (T d) none) Set.univ (.op (.customCall (Pipeline.entry 0) ()) .ret) Q :=
  Pipeline.RegionSeg.wp (pcfgs (F := F)) adm (dats m) none cellOf_inj (EP (F := F)) defs₀ 𝒱₀ (K (F := F)).L (K (F := F)).lev (reg m) d
    none (fun _ h => nomatch h) .ret Q

/-- The region as the program calls it. -/
theorem region_run [∀ e, Nonempty (Elt F e)] (d : Dev nD) (Q : PUnit → sProp 𝕄) :
    iprop((iprop(boundary (T d) ∗ regPost m d) -∗ Q ⟨⟩) ∗ boundary (T d) ∗ regPre m d ∗ levAts (K (F := F)).L (K (F := F)).lev ∗ G (F := F) d)
      ⊢ wp frame (wpE ((K (F := F)).defs (D (F := F))) 𝒱 (T d) none) Set.univ (Prog.lift (.customCall (SparseCore.inner (Pipeline.entry 0)) ())) Q := by
  have hl : (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry 0) ())) := rfl
  rw [hl]
  refine BIBase.Entails.trans ?_ ((K (F := F)).wp_liftProg (D (F := F)) 𝒱 (T d) Set.univ none _ Q)
  refine BIBase.Entails.trans ?_ (region_run₀ m d Q)
  iintro ⟨Hk, Hb, Hpre, Hlv, Hg, Ht⟩
  isplitl [Hk]
  · iintro H
    rw [wp_ret]
    imodintro
    iapply Hk
    iexact H
  isplitl [Hb]; · iexact Hb
  isplitl [Hpre]; · iexact Hpre
  isplitl [Hlv]; · iexact Hlv
  isplitl [Hg]; · iexact Hg
  iexact Ht

/-- `@main` on device `d`'s TensorCore: the call fills the partial sums, the region adds them. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Hs, Hp, Ho⟩, Hts, -⟩, HG⟩
  ihave Hr := (rd_split m d fullShare 2) $$ [Hx Hi Hs]
  · isplitl [Hx]; · iexact Hx
    isplitl [Hi]; · iexact Hi
    iexact Hs
  icases Hr with ⟨Hd, Hr⟩
  iapply ((K (F := F)).wp_run (D (F := F)) 𝒱 (EH := EH) (P := P m) κ d 0) $$ [Hst Hr Hp Hd Ho Hb Hts HG]
  isplitr; · iexact Hctx
  isplitl [Hst]; · iexact Hst
  isplitl [Hr Hp]
  · rw [starts]
    isplitl [Hr]; · iexact Hr
    iexact Hp
  iintro ⟨Hst, Hdn⟩
  ihave Hdn' := (Entails.of_eq (ends m d)) $$ Hdn
  icases Hdn' with ⟨Hr, Hp⟩
  ihave Hrd := (rd_join m d fullShare 2) $$ [Hd Hr]
  · isplitl [Hd]; · iexact Hd
    iexact Hr
  ihave Hlv := (SparseCore.Cfg.ctx_levAts κ) $$ Hctx
  unfold SparseCore.Cfg.tcSt
  icases Hst with ⟨⟨%W, %hW, HO⟩, Hat, Hrest⟩
  iapply (region_run m d _) $$ [Hb Hp Ho HO Hlv HG Hat Hrest Hrd Hts]
  isplitr [Hb Hp Ho HO Hlv HG]
  · iintro ⟨Hb, Hp, Ho, ⟨%W', %hW', HO⟩⟩
    imodintro
    isplitl [HO Hat Hrest]
    · isplitl [HO]
      · iexists W'; isplitr; · ipureintro; exact hW'
        rw [(K (F := F)).Otc_end d (le_refl 1)]
        iexact HO
      isplitl [Hat]; · iexact Hat
      iexact Hrest
    isplitl [Hrd Ho]
    · isplitl [Hrd]; · iexact Hrd
      iexact Ho
    isplitl [Hb]; · iexact Hb
    iexact Hts
  isplitl [Hb]; · iexact Hb
  isplitl [Hp Ho HO]
  · isplitl [Hp]; · iexact Hp
    isplitl [Ho]; · iexact Ho
    iexists W; isplitr; · ipureintro; exact hW
    iapply (Entails.of_eq (congrArg (fun O => (owes (T d) O W : sProp 𝕄)) ((K (F := F)).Otc_end d (le_refl 1)))); iexact HO
  isplitl [Hlv]; · iexact Hlv
  iexact HG

/-! ## The final memory -/

/-- The operands as launched, the result whole. -/
def fq (d : Dev nD) (s' : Phys nD τ sig (Elt F)) : Prop :=
  s'.mem.mem (xLoc d) = m (xLoc d) ∧ s'.mem.mem (iLoc d) = m (iLoc d) ∧ s'.mem.mem (sLoc d) = m (sLoc d) ∧ s'.mem.mem (oLoc d) = oFin m d

theorem hfin (d : Dev nD) (s' : Phys nD τ sig (Elt F)) : iprop(FIN m d ∗ SI s') ⊢ (⌜fq m d s'⌝ : sProp 𝕄) := by
  iintro ⟨⟨⟨Hx, Hi, Hs⟩, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%hi, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%hs, HSI, -⟩
  ihave H := (SI_pointsTo_agree (st := s') (ℓ := oLoc d) (I := Finset.univ) (q := fullShare) (f := oFin m d)) $$ [HSI Ho]
  · isplitl [HSI] <;> iassumption
  icases H with %ho
  ipureintro
  exact ⟨funext fun i => hx i (Finset.mem_univ i), funext fun i => hi i (Finset.mem_univ i), funext fun i => hs i (Finset.mem_univ i),
    funext fun i => ho i (Finset.mem_univ i)⟩

/-- Every device at `fq`, every counter at zero. -/
def QC : PUnit × MemSt nD τ sig (Elt F) → Prop := fun r =>
  (∀ c : Dev nD, r.2.mem (xLoc c) = m (xLoc c) ∧ r.2.mem (iLoc c) = m (iLoc c) ∧ r.2.mem (sLoc c) = m (sLoc c) ∧ r.2.mem (oLoc c) = oFin m c) ∧ r.2.sem = fun _ => 0

/-- The program runs to `QC` whenever every index names a row. -/
theorem run_main [∀ e, Nonempty (Elt F e)] (hpre : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

/-! ## The precondition, and the claim -/

/-- A word that is at least 0 and below 10000 as a signed number is below 10000 as an unsigned one. -/
theorem word_in_rows (v : BitVec 32) (e : IntOp.andi (IntOp.cmpi .sge v 0#32) (IntOp.cmpi .slt v 10000#32) = 1#1) : v.toNat < 10000 := by
  have hb : ∀ p q : Bool, IntOp.andi (BitVec.ofBool p) (BitVec.ofBool q) = 1#1 → p = true ∧ q = true := by decide
  obtain ⟨h0, h1⟩ := hb _ _ e
  simp only [BitVec.sle_eq_decide, BitVec.slt_eq_decide, decide_eq_true_eq, BitVec.toInt_eq_toNat_cond, BitVec.toNat_ofNat, Nat.reducePow,
    Nat.reduceMod] at h0 h1
  omega

/-- The claims' precondition says that every index names a row. -/
theorem ok_of_pre (h : ∀ c : Dev nD, Cert.Pre_idx_in_rows.fn (F := F) (m (xLoc c)) (m (iLoc c)) (m (sLoc c)) = fun _ => 1#1) : PreOK m := by
  intro d j
  have e := congrFun (h d) j
  simp only [Cert.Pre_idx_in_rows.fn, andi, cmpi, broadcastInDim, constantI] at e
  exact word_in_rows _ e

end Cert.Proof.KernI

end
-- ==== Proof.IdealFrame.lean ====
/-
  The frame claim of the kernel at exact operations: it runs, leaves its arguments as they were, and every counter back at zero.
-/
module

public import proofs.«01_k».proof.Proof.IdealLaunch

@[expose] public section

noncomputable section

namespace Cert.Proof.KernI

open Idealize.ShloMosaic Idealize.SL.Sem

theorem frame : Cert.quiescent_KernelIdeal := fun m ρ hpre =>
  (θ_run Cert.KernelIdeal.defs _ _).mono (fun _ h => ⟨fun c => ⟨(h.1 c).1, (h.1 c).2.1, (h.1 c).2.2.1⟩, h.2⟩) (run_main (F := Ideal) m ρ (ok_of_pre m hpre))

end Cert.Proof.KernI

end
-- ==== Proof.Ref.lean ====
/-
  What the reference computes. It pairs every edge element's node number with its column number and adds the element at the place of
  the input the pair names; at exact operations a place ends at its input plus the sum of the elements of its column whose node number is
  its row. Also the reference's frame claim.
-/
module

public import proofs.«01_k».proof.Proof.IdealFrame
public import proofs.«01_k».proof.Proof.Gen.ReferenceIdeal.Run
public import Idealize.ShloMosaic.Lib.Quiescent
public import Idealize.ShloMosaic.Lib.WordArith
public import Idealize.ShloMosaic.Lib.Routing.OpsPair
public import Idealize.ShloMosaic.Lib.Pipeline.Value

@[expose] public section

noncomputable section

namespace Cert.Proof.Refr

open Cert.ReferenceIdeal Cert.ReferenceIdeal.Gen
open Cert.Proof.Model
open Idealize.ShloMosaic Idealize.SL.Sem

/-- The node numbers, a negative one counted from the end. -/
def nodes (idx : IVec S320000x128 32) : IVec S320000x128 32 :=
  select (cmpi .slt idx (broadcastInDim S320000x128 ![] bcast_S_S320000x128 (constantI S_ 32 0#32)))
    (addi idx (broadcastInDim S320000x128 ![] bcast_S_S320000x128 (constantI S_ 32 10000#32))) idx

/-- Each element's column number before the wrap, and after it. -/
def cols₀ : IVec S320000x128 32 := broadcastInDim S320000x128 ![1] bcast_S128_S320000x128_1 (iotaInDim S128 32 0)
def cols : IVec S320000x128 32 :=
  select (cmpi .slt cols₀ (broadcastInDim S320000x128 ![] bcast_S_S320000x128 (constantI S_ 32 0#32)))
    (addi cols₀ (broadcastInDim S320000x128 ![] bcast_S_S320000x128 (constantI S_ 32 128#32))) cols₀

/-- The pairs (node number, column number). -/
def pairs (idx : IVec S320000x128 32) : IVec S320000x128x2 32 :=
  concatenate S320000x128x2 2
    [⟨S320000x128x1, broadcastInDim S320000x128x1 ![0, 1] bcast_S320000x128_S320000x128x1_0_1 (nodes idx)⟩,
     ⟨S320000x128x1, broadcastInDim S320000x128x1 ![0, 1] bcast_S320000x128_S320000x128x1_0_1 cols⟩]
    concatenates_S320000x128x1_S320000x128x1_S320000x128x2_d2

/-- The result of the reference. -/
def out (inp : Vec Ideal SN .f32) (idx : Vec Ideal SE .i32) (src : Vec Ideal SE .f32) : Vec Ideal SN .f32 :=
  Host.scatterAdd (F := Ideal) (φ := .f32) scatter_S10000x128_S320000x128x2_S320000x128_n_01_01_2 inp (pairs idx) src

/-- A node number that names a row is left as it is. -/
theorem nodes_at (idx : IVec S320000x128 32) (j : S320000x128.Idx) (h : (idx j).toNat < 10000) : nodes idx j = idx j :=
  Routing.wrap_of_lt (idx j) _ (by omega)

theorem cols₀_at (a : Fin 320000) (b : Fin 128) : cols₀ (ValueIdx.ix2 a b) = BitVec.ofNat 32 b.val :=
  (broadcastInDim_apply (s := S128) (t := S320000x128) ![1] bcast_S128_S320000x128_1 (iotaInDim S128 32 0) (ValueIdx.ix2 a b) (ValueIdx.ix1 b)
    (fun a' => by obtain rfl := Subsingleton.elim a' 0; rfl)).trans rfl

/-- The second number of a pair is the column. -/
theorem cols_at (a : Fin 320000) (b : Fin 128) : cols (ValueIdx.ix2 a b) = BitVec.ofNat 32 b.val := by
  have h : (cols₀ (ValueIdx.ix2 a b)).toNat < 2 ^ 31 := by rw [cols₀_at, BitVec.toNat_ofNat]; omega
  exact (Routing.wrap_of_lt _ _ h).trans (cols₀_at a b)

private theorem unit_at (x : IVec S320000x128 32) (a : Fin 320000) (b : Fin 128) :
    broadcastInDim S320000x128x1 ![0, 1] bcast_S320000x128_S320000x128x1_0_1 x (ValueIdx.ix3 a b (0 : Fin 1)) = x (ValueIdx.ix2 a b) :=
  broadcastInDim_apply (s := S320000x128) (t := S320000x128x1) _ _ x _ (ValueIdx.ix2 a b) fun a' => match a' with
    | 0 => (if_neg (by decide)).symm
    | 1 => (if_neg (by decide)).symm

/-- The first number of a pair. -/
theorem pairs_fst (idx : IVec S320000x128 32) (a : Fin 320000) (b : Fin 128) :
    pairs idx (ValueIdx.ix3 a b (0 : Fin 2)) = nodes idx (ValueIdx.ix2 a b) :=
  (concatenate_pair_apply_left (t := S320000x128x2) (s₁ := S320000x128x1) (s₂ := S320000x128x1) 2 _ _ _ _ rfl (ValueIdx.ix3 a b (0 : Fin 1))
    fun b' => match b' with | 0 => rfl | 1 => rfl | 2 => rfl).trans (unit_at _ a b)

/-- The second number of a pair. -/
theorem pairs_snd (idx : IVec S320000x128 32) (a : Fin 320000) (b : Fin 128) :
    pairs idx (ValueIdx.ix3 a b (1 : Fin 2)) = cols (ValueIdx.ix2 a b) :=
  (concatenate_pair_apply_right (t := S320000x128x2) (s₁ := S320000x128x1) (s₂ := S320000x128x1) 2 _ _ _ _ rfl rfl (ValueIdx.ix3 a b (0 : Fin 1))
    (fun b' hb => match b', hb with | 0, _ => rfl | 1, _ => rfl | 2, hb => absurd rfl hb) rfl).trans (unit_at _ a b)

/-- Edge element `j` is added at place `i` exactly when it lies in that column and its node number is that row. -/
theorem lands (idx : IVec S320000x128 32) (h : InRows (F := Ideal) idx) (j : S320000x128.Idx) (i : S10000x128.Idx) :
    scatter_S10000x128_S320000x128x2_S320000x128_n_01_01_2.resultIdx? j (pairs idx) = some i
      ↔ (idx j).toNat = (i 0).val ∧ (j 1).val = (i 1).val := by
  obtain ⟨a, b, rfl⟩ : ∃ (a : Fin 320000) (b : Fin 128), j = ValueIdx.ix2 a b := ⟨j 0, j 1, ValueIdx.eq_ix2 j⟩
  obtain ⟨r, c, rfl⟩ : ∃ (r : Fin 10000) (c : Fin 128), i = ValueIdx.ix2 r c := ⟨i 0, i 1, ValueIdx.eq_ix2 i⟩
  have hw := h (ValueIdx.ix2 a b)
  refine (Routing.scatter_lands2 scatter_S10000x128_S320000x128x2_S320000x128_n_01_01_2 rfl rfl rfl (pairs idx) a b r c).trans ?_
  rw [pairs_fst, pairs_snd, nodes_at _ _ hw, cols_at, BitVec.toInt_eq_toNat_of_lt (by omega), WordArith.toInt_ofNat_small _ (by omega)]
  exact and_congr Int.natCast_inj Int.natCast_inj

/-- The reference's result at one place: the input there plus the sum of the elements of that column whose node number is that row. -/
theorem out_at (inp : Vec Ideal SN .f32) (idx : Vec Ideal SE .i32) (src : Vec Ideal SE .f32) (h : InRows idx) (i : SN.Idx) :
    out inp idx src i = (inp i + ∑ e ∈ (Finset.range 320000).filter (fun e => (idx (edge e (i 1).val)).toNat = (i 0).val),
      src (edge e (i 1).val) : EReal) := by
  have hc : (i 1).val < 128 := (i 1).isLt
  refine Eq.trans (b := (inp i + ∑ j ∈ Finset.univ.filter (fun j : SE.Idx =>
    scatter_S10000x128_S320000x128x2_S320000x128_n_01_01_2.resultIdx? j (pairs idx) = some i), src j : EReal)) rfl ?_
  refine congrArg (fun s : EReal => (inp i + s : EReal)) (Finset.sum_nbij' (fun j : SE.Idx => (j 0).val) (fun e => edge e (i 1).val) ?_ ?_ ?_ ?_ ?_)
  · intro j hj
    obtain ⟨h0, h1⟩ := (lands idx h j i).1 (Finset.mem_filter.1 hj).2
    rw [Finset.mem_filter, Finset.mem_range, ← eq_edge j rfl h1]
    exact ⟨(j 0).isLt, h0⟩
  · intro e he
    obtain ⟨h0, h1⟩ := Finset.mem_filter.1 he
    exact Finset.mem_filter.2 ⟨Finset.mem_univ _, (lands idx h _ i).2 ⟨h1, edge_val1 hc⟩⟩
  · intro j hj
    exact (eq_edge j rfl ((lands idx h j i).1 (Finset.mem_filter.1 hj).2).2).symm
  · intro e he
    exact edge_val0 (Finset.mem_range.1 (Finset.mem_filter.1 he).1)
  · intro j hj
    exact congrArg src (eq_edge j rfl ((lands idx h j i).1 (Finset.mem_filter.1 hj).2).2)

/-- The reference runs to `out` of its arguments, leaves them as they were, and every counter at zero. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v15)
          = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨h, sem_eq_zero_of_no_sems (by decide) r.2⟩) (Value.run (F := Ideal) m ρ)

/-- The frame claim of the reference, on any input. -/
theorem frame : Cert.quiescent_ReferenceIdeal := fun m ρ _ =>
  (θ_run Cert.ReferenceIdeal.defs _ _).mono (fun _ h => ⟨fun c => (h.1 c).2, h.2⟩) (run_main m ρ)

/-- The frame claim of the reference where every node number names a row. -/
theorem frame_in_rows : Cert.quiescent_ReferenceIdeal_pre_idx_in_rows := fun m ρ _ =>
  (θ_run Cert.ReferenceIdeal.defs _ _).mono (fun _ h => ⟨fun c => (h.1 c).2, h.2⟩) (run_main m ρ)

end Cert.Proof.Refr

end
-- ==== Proof.Equation.lean ====
/-
  The kernel's result and the reference's are the same extended real at every place: the two halves' sums, added, are one sum over all edge rows.
-/
module

public import proofs.«01_k».proof.Proof.Ref

@[expose] public section

noncomputable section

namespace Cert.Proof.Model

open Idealize.ShloMosaic

/-- At exact addition the accumulated value is the start plus the sum of the values whose row is `r`. -/
theorem acc_sum (row : ℕ → ℕ) (val : ℕ → EReal) (r : ℕ) (x : EReal) (n : ℕ) :
    acc (fun a b : EReal => a + b) row val r x n = x + ∑ e ∈ Finset.range n, if row e = r then val e else 0 := by
  induction n with
  | zero => rw [Finset.range_zero, Finset.sum_empty, add_zero]; rfl
  | succ n ih =>
    rw [Finset.sum_range_succ, ← add_assoc, ← ih]
    show (if row n = r then acc (fun a b : EReal => a + b) row val r x n + val n else acc (fun a b : EReal => a + b) row val r x n) = _
    split
    · rfl
    · rw [add_zero]

/-- One half's sum at exact operations. -/
theorem half_sum (inp : Vec Ideal SN .f32) (idx : Vec Ideal SE .i32) (src : Vec Ideal SE .f32) (c r k n : ℕ) :
    half inp idx src c r k n
      = (startOf inp c r k + ∑ e ∈ Finset.range n, if (idx (edge (160000 * c + e) k)).toNat = r then src (edge (160000 * c + e) k) else 0 : EReal) :=
  acc_sum _ _ r _ n

/-- The kernel's combined result is the reference's result wherever every node number names a row. -/
theorem total_eq_out (inp : Vec Ideal SN .f32) (idx : Vec Ideal SE .i32) (src : Vec Ideal SE .f32) (h : InRows idx) :
    total inp idx src = Refr.out inp idx src := by
  funext i
  refine Eq.trans ?_ (Refr.out_at inp idx src h i).symm
  have h0 : (startOf inp 0 (i 0).val (i 1).val : EReal) = inp i := congrArg inp (eq_node i rfl rfl).symm
  have h1 : (startOf inp 1 (i 0).val (i 1).val : EReal) = 0 := Ideal.ofBits_zero_f32
  have hs := Finset.sum_range_add (fun e => (if (idx (edge e (i 1).val)).toNat = (i 0).val then src (edge e (i 1).val) else 0 : EReal)) 160000 160000
  refine (congrArg₂ (fun a b : EReal => a + b) (half_sum inp idx src 0 (i 0).val (i 1).val 160000)
    (half_sum inp idx src 1 (i 0).val (i 1).val 160000)).trans ?_
  dsimp only
  rw [h0, h1, zero_add, add_assoc, Finset.sum_filter]
  refine congrArg (fun s : EReal => (inp i + s : EReal)) (Eq.trans ?_ hs.symm)
  simp only [Nat.mul_zero, Nat.zero_add, Nat.mul_one]

end Cert.Proof.Model

end
-- ==== Proof.lean ====
/-
  The proof of `Cert.Claim`: the three programs' frame claims, that the kernel read at exact operations is its own text, and that there it
  computes what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_idx_in_rows
public import proofs.«01_k».proof.Proof.Frame
public import proofs.«01_k».proof.Proof.IdealFrame
public import proofs.«01_k».proof.Proof.Equation
public import Idealize.ShloMosaic.Adequacy
public import Idealize.ShloMosaic.Init

@[expose] public section

noncomputable section

namespace Cert.Proof

open Idealize.ShloMosaic Idealize.SL.Sem

/-- From memories that agree on the arguments, every node number naming a row, the kernel and the reference both run at exact operations and
    end with the same result, `Model.total` of the arguments; the arguments stay as they were. -/
theorem algebraic : Cert.algebraic_KernelIdeal_ReferenceIdeal := by
  intro m ρ m' ρ' hpre hagree
  have hok := KernI.ok_of_pre (F := Ideal) m hpre
  refine ⟨fun c => KernI.oFin m c,
    (θ_run Cert.KernelIdeal.defs _ _).mono (fun _ h c => ⟨(h.1 c).2.2.2, (h.1 c).1, (h.1 c).2.1, (h.1 c).2.2.1⟩) (KernI.run_main (F := Ideal) m ρ hok),
    (θ_run Cert.ReferenceIdeal.defs _ _).mono (fun _ h c => ⟨(h.1 c).1.trans ?_, (h.1 c).2⟩) (Refr.run_main m' ρ')⟩
  obtain ⟨h0, h1, h2⟩ := hagree c
  rw [h0, h1, h2]
  exact (Model.total_eq_out _ _ _ (hok c)).symm

theorem claim : Cert.Claim :=
  ⟨Cert.Kernel.Gen.facts, Cert.KernelIdeal.Gen.facts, Cert.ReferenceIdeal.Gen.facts, Cert.Pre_idx_in_rows.Gen.facts,
    Kern.frame, KernI.frame, Refr.frame, Refr.frame_in_rows, trivial, algebraic⟩

end Cert.Proof

end
